-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![8192, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 4096]⟩ ⟨2, ![8192, 4096]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S8192x4096 : Shape := ⟨2, ![8192, 4096]⟩
abbrev S1024x4096 : Shape := ⟨2, ![1024, 4096]⟩
abbrev S4x1024x1024 : Shape := ⟨3, ![4, 1024, 1024]⟩
abbrev S3x1024x1024 : Shape := ⟨3, ![3, 1024, 1024]⟩
abbrev S2x512x1024 : Shape := ⟨3, ![2, 512, 1024]⟩
abbrev S2x1024x1024 : Shape := ⟨3, ![2, 1024, 1024]⟩
abbrev S8 : Shape := ⟨1, ![8]⟩
abbrev S2 : Shape := ⟨1, ![2]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S1024x4096, .f32⟩
  | .local _ .vmem, ⟨0, _⟩ => ⟨S1024x4096, .f32⟩
  | .local _ .vmem, ⟨1, _⟩ => ⟨S4x1024x1024, .fp8e4m3⟩
  | .local _ .vmem, ⟨2, _⟩ => ⟨S4x1024x1024, .bf16⟩
  | .local _ .vmem, ⟨3, _⟩ => ⟨S4x1024x1024, .fp8e4m3⟩
  | .local _ .vmem, ⟨4, _⟩ => ⟨S3x1024x1024, .bf16⟩
  | .local _ .vmem, ⟨5, _⟩ => ⟨S2x512x1024, .f32⟩
  | .local _ .vmem, ⟨6, _⟩ => ⟨S2x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_64 : BitVec 32) (c0_i32_71 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c1024_i32 : BitVec 32 := 1024#32
  let v106 : BitVec 32 := Scalar.muli v105 c1024_i32
  let v107 : BitVec 32 := Scalar.addi v106 c0_i32_71
  let c0_i32_84 : BitVec 32 := 0#32
  ![v107.toNat, 0]
def k0_dev8 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_137 : BitVec 32 := 1#32
  let v189 : BitVec 32 := Scalar.addi v2 c1_i32_137
  let c8_i32_138 : BitVec 32 := 8#32
  let c0_i32_139 : BitVec 32 := 0#32
  let v190 : BitVec 1 := Scalar.cmpi .eq c8_i32_138 c0_i32_139
  let c1_i32_140 : BitVec 32 := 1#32
  let v191 : BitVec 32 := Scalar.select v190 c1_i32_140 c8_i32_138
  let v192 : BitVec 32 := Scalar.remsi v189 v191
  let c0_i32_142 : BitVec 32 := 0#32
  let v194 : BitVec 1 := Scalar.cmpi .slt v192 c0_i32_142
  let c0_i32_143 : BitVec 32 := 0#32
  let v195 : BitVec 1 := Scalar.cmpi .slt v191 c0_i32_143
  let v196 : BitVec 1 := Scalar.xori v194 v195
  let c0_i32_141 : BitVec 32 := 0#32
  let v193 : BitVec 1 := Scalar.cmpi .ne v192 c0_i32_141
  let v197 : BitVec 1 := Scalar.andi v196 v193
  let v198 : BitVec 32 := Scalar.addi v192 v191
  let v199 : BitVec 32 := Scalar.select v197 v198 v192
  let c1_i32_148 : BitVec 32 := 1#32
  let v200 : BitVec 32 := Scalar.muli v199 c1_i32_148
  let v201 : BitVec 32 := Scalar.addi c0_i32_149 v200
  v201.toNat
def k0_dev9 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_204 : BitVec 32 := 2#32
  let v268 : BitVec 32 := Scalar.addi v2 c2_i32_204
  let c8_i32_205 : BitVec 32 := 8#32
  let c0_i32_206 : BitVec 32 := 0#32
  let v269 : BitVec 1 := Scalar.cmpi .eq c8_i32_205 c0_i32_206
  let c1_i32_207 : BitVec 32 := 1#32
  let v270 : BitVec 32 := Scalar.select v269 c1_i32_207 c8_i32_205
  let v271 : BitVec 32 := Scalar.remsi v268 v270
  let c0_i32_209 : BitVec 32 := 0#32
  let v273 : BitVec 1 := Scalar.cmpi .slt v271 c0_i32_209
  let c0_i32_210 : BitVec 32 := 0#32
  let v274 : BitVec 1 := Scalar.cmpi .slt v270 c0_i32_210
  let v275 : BitVec 1 := Scalar.xori v273 v274
  let c0_i32_208 : BitVec 32 := 0#32
  let v272 : BitVec 1 := Scalar.cmpi .ne v271 c0_i32_208
  let v276 : BitVec 1 := Scalar.andi v275 v272
  let v277 : BitVec 32 := Scalar.addi v271 v270
  let v278 : BitVec 32 := Scalar.select v276 v277 v271
  let c1_i32_215 : BitVec 32 := 1#32
  let v279 : BitVec 32 := Scalar.muli v278 c1_i32_215
  let v280 : BitVec 32 := Scalar.addi c0_i32_216 v279
  v280.toNat
def k0_dev10 (d0 : Dev nD) : Nat :=
  let c0_i32_282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_270 : BitVec 32 := 3#32
  let v347 : BitVec 32 := Scalar.addi v2 c3_i32_270
  let c8_i32_271 : BitVec 32 := 8#32
  let c0_i32_272 : BitVec 32 := 0#32
  let v348 : BitVec 1 := Scalar.cmpi .eq c8_i32_271 c0_i32_272
  let c1_i32_273 : BitVec 32 := 1#32
  let v349 : BitVec 32 := Scalar.select v348 c1_i32_273 c8_i32_271
  let v350 : BitVec 32 := Scalar.remsi v347 v349
  let c0_i32_275 : BitVec 32 := 0#32
  let v352 : BitVec 1 := Scalar.cmpi .slt v350 c0_i32_275
  let c0_i32_276 : BitVec 32 := 0#32
  let v353 : BitVec 1 := Scalar.cmpi .slt v349 c0_i32_276
  let v354 : BitVec 1 := Scalar.xori v352 v353
  let c0_i32_274 : BitVec 32 := 0#32
  let v351 : BitVec 1 := Scalar.cmpi .ne v350 c0_i32_274
  let v355 : BitVec 1 := Scalar.andi v354 v351
  let v356 : BitVec 32 := Scalar.addi v350 v349
  let v357 : BitVec 32 := Scalar.select v355 v356 v350
  let c1_i32_281 : BitVec 32 := 1#32
  let v358 : BitVec 32 := Scalar.muli v357 c1_i32_281
  let v359 : BitVec 32 := Scalar.addi c0_i32_282 v358
  v359.toNat
def k0_dev11 (d0 : Dev nD) : Nat :=
  let c0_i32_348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_336 : BitVec 32 := 4#32
  let v426 : BitVec 32 := Scalar.addi v2 c4_i32_336
  let c8_i32_337 : BitVec 32 := 8#32
  let c0_i32_338 : BitVec 32 := 0#32
  let v427 : BitVec 1 := Scalar.cmpi .eq c8_i32_337 c0_i32_338
  let c1_i32_339 : BitVec 32 := 1#32
  let v428 : BitVec 32 := Scalar.select v427 c1_i32_339 c8_i32_337
  let v429 : BitVec 32 := Scalar.remsi v426 v428
  let c0_i32_341 : BitVec 32 := 0#32
  let v431 : BitVec 1 := Scalar.cmpi .slt v429 c0_i32_341
  let c0_i32_342 : BitVec 32 := 0#32
  let v432 : BitVec 1 := Scalar.cmpi .slt v428 c0_i32_342
  let v433 : BitVec 1 := Scalar.xori v431 v432
  let c0_i32_340 : BitVec 32 := 0#32
  let v430 : BitVec 1 := Scalar.cmpi .ne v429 c0_i32_340
  let v434 : BitVec 1 := Scalar.andi v433 v430
  let v435 : BitVec 32 := Scalar.addi v429 v428
  let v436 : BitVec 32 := Scalar.select v434 v435 v429
  let c1_i32_347 : BitVec 32 := 1#32
  let v437 : BitVec 32 := Scalar.muli v436 c1_i32_347
  let v438 : BitVec 32 := Scalar.addi c0_i32_348 v437
  v438.toNat
def k0_dev12 (d0 : Dev nD) : Nat :=
  let c0_i32_415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_403 : BitVec 32 := 5#32
  let v505 : BitVec 32 := Scalar.addi v2 c5_i32_403
  let c8_i32_404 : BitVec 32 := 8#32
  let c0_i32_405 : BitVec 32 := 0#32
  let v506 : BitVec 1 := Scalar.cmpi .eq c8_i32_404 c0_i32_405
  let c1_i32_406 : BitVec 32 := 1#32
  let v507 : BitVec 32 := Scalar.select v506 c1_i32_406 c8_i32_404
  let v508 : BitVec 32 := Scalar.remsi v505 v507
  let c0_i32_408 : BitVec 32 := 0#32
  let v510 : BitVec 1 := Scalar.cmpi .slt v508 c0_i32_408
  let c0_i32_409 : BitVec 32 := 0#32
  let v511 : BitVec 1 := Scalar.cmpi .slt v507 c0_i32_409
  let v512 : BitVec 1 := Scalar.xori v510 v511
  let c0_i32_407 : BitVec 32 := 0#32
  let v509 : BitVec 1 := Scalar.cmpi .ne v508 c0_i32_407
  let v513 : BitVec 1 := Scalar.andi v512 v509
  let v514 : BitVec 32 := Scalar.addi v508 v507
  let v515 : BitVec 32 := Scalar.select v513 v514 v508
  let c1_i32_414 : BitVec 32 := 1#32
  let v516 : BitVec 32 := Scalar.muli v515 c1_i32_414
  let v517 : BitVec 32 := Scalar.addi c0_i32_415 v516
  v517.toNat
def k0_dev13 (d0 : Dev nD) : Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_470 : BitVec 32 := 6#32
  let v584 : BitVec 32 := Scalar.addi v2 c6_i32_470
  let c8_i32_471 : BitVec 32 := 8#32
  let c0_i32_472 : BitVec 32 := 0#32
  let v585 : BitVec 1 := Scalar.cmpi .eq c8_i32_471 c0_i32_472
  let c1_i32_473 : BitVec 32 := 1#32
  let v586 : BitVec 32 := Scalar.select v585 c1_i32_473 c8_i32_471
  let v587 : BitVec 32 := Scalar.remsi v584 v586
  let c0_i32_475 : BitVec 32 := 0#32
  let v589 : BitVec 1 := Scalar.cmpi .slt v587 c0_i32_475
  let c0_i32_476 : BitVec 32 := 0#32
  let v590 : BitVec 1 := Scalar.cmpi .slt v586 c0_i32_476
  let v591 : BitVec 1 := Scalar.xori v589 v590
  let c0_i32_474 : BitVec 32 := 0#32
  let v588 : BitVec 1 := Scalar.cmpi .ne v587 c0_i32_474
  let v592 : BitVec 1 := Scalar.andi v591 v588
  let v593 : BitVec 32 := Scalar.addi v587 v586
  let v594 : BitVec 32 := Scalar.select v592 v593 v587
  let c1_i32_481 : BitVec 32 := 1#32
  let v595 : BitVec 32 := Scalar.muli v594 c1_i32_481
  let v596 : BitVec 32 := Scalar.addi c0_i32_482 v595
  v596.toNat
def k0_dev14 (d0 : Dev nD) : Nat :=
  let c0_i32_549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_537 : BitVec 32 := 7#32
  let v663 : BitVec 32 := Scalar.addi v2 c7_i32_537
  let c8_i32_538 : BitVec 32 := 8#32
  let c0_i32_539 : BitVec 32 := 0#32
  let v664 : BitVec 1 := Scalar.cmpi .eq c8_i32_538 c0_i32_539
  let c1_i32_540 : BitVec 32 := 1#32
  let v665 : BitVec 32 := Scalar.select v664 c1_i32_540 c8_i32_538
  let v666 : BitVec 32 := Scalar.remsi v663 v665
  let c0_i32_542 : BitVec 32 := 0#32
  let v668 : BitVec 1 := Scalar.cmpi .slt v666 c0_i32_542
  let c0_i32_543 : BitVec 32 := 0#32
  let v669 : BitVec 1 := Scalar.cmpi .slt v665 c0_i32_543
  let v670 : BitVec 1 := Scalar.xori v668 v669
  let c0_i32_541 : BitVec 32 := 0#32
  let v667 : BitVec 1 := Scalar.cmpi .ne v666 c0_i32_541
  let v671 : BitVec 1 := Scalar.andi v670 v667
  let v672 : BitVec 32 := Scalar.addi v666 v665
  let v673 : BitVec 32 := Scalar.select v671 v672 v666
  let c1_i32_548 : BitVec 32 := 1#32
  let v674 : BitVec 32 := Scalar.muli v673 c1_i32_548
  let v675 : BitVec 32 := Scalar.addi c0_i32_549 v674
  v675.toNat
def k0_off2 (d0 : Dev nD) (c0_i32_576 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v706 : BitVec 32 := Scalar.subi v2 c0_i32_576
  let c8_i32_577 : BitVec 32 := 8#32
  let c0_i32_578 : BitVec 32 := 0#32
  let v707 : BitVec 1 := Scalar.cmpi .eq c8_i32_577 c0_i32_578
  let c1_i32_579 : BitVec 32 := 1#32
  let v708 : BitVec 32 := Scalar.select v707 c1_i32_579 c8_i32_577
  let v709 : BitVec 32 := Scalar.remsi v706 v708
  let c0_i32_581 : BitVec 32 := 0#32
  let v711 : BitVec 1 := Scalar.cmpi .slt v709 c0_i32_581
  let c0_i32_582 : BitVec 32 := 0#32
  let v712 : BitVec 1 := Scalar.cmpi .slt v708 c0_i32_582
  let v713 : BitVec 1 := Scalar.xori v711 v712
  let c0_i32_580 : BitVec 32 := 0#32
  let v710 : BitVec 1 := Scalar.cmpi .ne v709 c0_i32_580
  let v714 : BitVec 1 := Scalar.andi v713 v710
  let v715 : BitVec 32 := Scalar.addi v709 v708
  let v716 : BitVec 32 := Scalar.select v714 v715 v709
  let c1024_i32_583 : BitVec 32 := 1024#32
  let v717 : BitVec 32 := Scalar.muli v716 c1024_i32_583
  let c0_i32_596 : BitVec 32 := 0#32
  ![v717.toNat, 0]
def k0_off3 (d0 : Dev nD) (c0_i32_584 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v718 : BitVec 32 := Scalar.subi v2 c0_i32_584
  let c8_i32_585 : BitVec 32 := 8#32
  let c0_i32_586 : BitVec 32 := 0#32
  let v719 : BitVec 1 := Scalar.cmpi .eq c8_i32_585 c0_i32_586
  let c1_i32_587 : BitVec 32 := 1#32
  let v720 : BitVec 32 := Scalar.select v719 c1_i32_587 c8_i32_585
  let v721 : BitVec 32 := Scalar.remsi v718 v720
  let c0_i32_589 : BitVec 32 := 0#32
  let v723 : BitVec 1 := Scalar.cmpi .slt v721 c0_i32_589
  let c0_i32_590 : BitVec 32 := 0#32
  let v724 : BitVec 1 := Scalar.cmpi .slt v720 c0_i32_590
  let v725 : BitVec 1 := Scalar.xori v723 v724
  let c0_i32_588 : BitVec 32 := 0#32
  let v722 : BitVec 1 := Scalar.cmpi .ne v721 c0_i32_588
  let v726 : BitVec 1 := Scalar.andi v725 v722
  let v727 : BitVec 32 := Scalar.addi v721 v720
  let v728 : BitVec 32 := Scalar.select v726 v727 v721
  let c1024_i32_591 : BitVec 32 := 1024#32
  let v729 : BitVec 32 := Scalar.muli v728 c1024_i32_591
  let c1024_i32_601 : BitVec 32 := 1024#32
  ![v729.toNat, 1024]
def k0_off4 (d0 : Dev nD) (c0_i32_615 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v752 : BitVec 32 := Scalar.subi v2 c0_i32_615
  let c8_i32_616 : BitVec 32 := 8#32
  let c0_i32_617 : BitVec 32 := 0#32
  let v753 : BitVec 1 := Scalar.cmpi .eq c8_i32_616 c0_i32_617
  let c1_i32_618 : BitVec 32 := 1#32
  let v754 : BitVec 32 := Scalar.select v753 c1_i32_618 c8_i32_616
  let v755 : BitVec 32 := Scalar.remsi v752 v754
  let c0_i32_620 : BitVec 32 := 0#32
  let v757 : BitVec 1 := Scalar.cmpi .slt v755 c0_i32_620
  let c0_i32_621 : BitVec 32 := 0#32
  let v758 : BitVec 1 := Scalar.cmpi .slt v754 c0_i32_621
  let v759 : BitVec 1 := Scalar.xori v757 v758
  let c0_i32_619 : BitVec 32 := 0#32
  let v756 : BitVec 1 := Scalar.cmpi .ne v755 c0_i32_619
  let v760 : BitVec 1 := Scalar.andi v759 v756
  let v761 : BitVec 32 := Scalar.addi v755 v754
  let v762 : BitVec 32 := Scalar.select v760 v761 v755
  let c1024_i32_622 : BitVec 32 := 1024#32
  let v763 : BitVec 32 := Scalar.muli v762 c1024_i32_622
  let c2048_i32 : BitVec 32 := 2048#32
  ![v763.toNat, 2048]
def k0_off5 (d0 : Dev nD) (c0_i32_637 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v779 : BitVec 32 := Scalar.subi v2 c0_i32_637
  let c8_i32_638 : BitVec 32 := 8#32
  let c0_i32_639 : BitVec 32 := 0#32
  let v780 : BitVec 1 := Scalar.cmpi .eq c8_i32_638 c0_i32_639
  let c1_i32_640 : BitVec 32 := 1#32
  let v781 : BitVec 32 := Scalar.select v780 c1_i32_640 c8_i32_638
  let v782 : BitVec 32 := Scalar.remsi v779 v781
  let c0_i32_642 : BitVec 32 := 0#32
  let v784 : BitVec 1 := Scalar.cmpi .slt v782 c0_i32_642
  let c0_i32_643 : BitVec 32 := 0#32
  let v785 : BitVec 1 := Scalar.cmpi .slt v781 c0_i32_643
  let v786 : BitVec 1 := Scalar.xori v784 v785
  let c0_i32_641 : BitVec 32 := 0#32
  let v783 : BitVec 1 := Scalar.cmpi .ne v782 c0_i32_641
  let v787 : BitVec 1 := Scalar.andi v786 v783
  let v788 : BitVec 32 := Scalar.addi v782 v781
  let v789 : BitVec 32 := Scalar.select v787 v788 v782
  let c1024_i32_644 : BitVec 32 := 1024#32
  let v790 : BitVec 32 := Scalar.muli v789 c1024_i32_644
  let c3072_i32 : BitVec 32 := 3072#32
  ![v790.toNat, 3072]
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.KernelIdeal.Proto.lean ====
/-
# The exchange's protocol: cells, payloads, schedule, debts

Eight devices; every device sends block `off` of its rows to the device `off` places after it, for `off = 1 … 7`.
A device first lends each peer the slot that peer's copy lands in (one unit on the peer's barrier cell, carrying the
slot), waits for the seven slots lent to it, and only then copies. The semaphores, with who pays them and what each
payment hands over:

* barrier cell of `c`, seven duties `k = 1 … 7` of one unit: duty `k` is paid by `peer c k` and hands over that
  device's landing slot `k`, contents arbitrary;
* send cell `k` of `c`, one duty: paid by `c`'s own copy `k` when its source has been read; hands the source slot back;
* receive cell `k` of `c`, one duty: paid by the copy `k` of the device `k` places before `c`; hands over `c`'s landing
  slot `k` holding that device's block `c`, cast to the wire format.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Mathlib.Algebra.BigOperators.Intervals

@[expose] public section

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the exchange's rounds, the local transfers' counters -/

abbrev UB : Type := URounds (GSem nD τ sig) ℕ
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
omit [FloatOps F] in
instance ER_landsIn : (ER : Emb UB 𝕄).LandsIn (upEmb : UEmb _ 𝕄) := by unfold ER; infer_instance

variable (m : (ℓ : Loc nD τ sig) → Buf (Elt F) ℓ)

/-! ## The devices -/

/-- The device `k` places after `c`. -/
def peer (c : Dev nD) (k : ℕ) : Dev nD := ⟨(c.val + k) % 8, Nat.mod_lt _ (by decide)⟩

theorem peer_val (c : Dev nD) (k : ℕ) : (peer c k).val = (c.val + k) % 8 := rfl

theorem peer_peer (c : Dev nD) {j k : ℕ} (h : j + k = 8) : peer (peer c j) k = c := by
  have hc : c.val < 8 := c.isLt
  refine Fin.ext ?_
  show ((c.val + j) % 8 + k) % 8 = c.val
  omega

set_option maxRecDepth 4096 in
theorem dev1_eq (c : Dev nD) : (⟨k0_dev1 c, k0_dev1_lt c⟩ : Dev nD) = peer c 1 := by revert c; decide
theorem dev2_eq (c : Dev nD) : (⟨k0_dev2 c, k0_dev2_lt c⟩ : Dev nD) = peer c 2 := by revert c; decide
theorem dev3_eq (c : Dev nD) : (⟨k0_dev3 c, k0_dev3_lt c⟩ : Dev nD) = peer c 3 := by revert c; decide
theorem dev4_eq (c : Dev nD) : (⟨k0_dev4 c, k0_dev4_lt c⟩ : Dev nD) = peer c 4 := by revert c; decide
theorem dev5_eq (c : Dev nD) : (⟨k0_dev5 c, k0_dev5_lt c⟩ : Dev nD) = peer c 5 := by revert c; decide
theorem dev6_eq (c : Dev nD) : (⟨k0_dev6 c, k0_dev6_lt c⟩ : Dev nD) = peer c 6 := by revert c; decide
theorem dev7_eq (c : Dev nD) : (⟨k0_dev7 c, k0_dev7_lt c⟩ : Dev nD) = peer c 7 := by revert c; decide
theorem dev8_eq (c : Dev nD) : (⟨k0_dev8 c, k0_dev8_lt c⟩ : Dev nD) = peer c 1 := by revert c; decide
theorem dev9_eq (c : Dev nD) : (⟨k0_dev9 c, k0_dev9_lt c⟩ : Dev nD) = peer c 2 := by revert c; decide
theorem dev10_eq (c : Dev nD) : (⟨k0_dev10 c, k0_dev10_lt c⟩ : Dev nD) = peer c 3 := by revert c; decide
theorem dev11_eq (c : Dev nD) : (⟨k0_dev11 c, k0_dev11_lt c⟩ : Dev nD) = peer c 4 := by revert c; decide
theorem dev12_eq (c : Dev nD) : (⟨k0_dev12 c, k0_dev12_lt c⟩ : Dev nD) = peer c 5 := by revert c; decide
theorem dev13_eq (c : Dev nD) : (⟨k0_dev13 c, k0_dev13_lt c⟩ : Dev nD) = peer c 6 := by revert c; decide
theorem dev14_eq (c : Dev nD) : (⟨k0_dev14 c, k0_dev14_lt c⟩ : Dev nD) = peer c 7 := by revert c; decide

/-! ## The memrefs, the slots, the cells -/

abbrev xM : Memref sig .tc .hbm S8192x1024 .f32 := Memref.whole main_arg0
abbrev wM : Memref sig .tc .hbm S8192x4096 .f32 := Memref.whole main_arg1
abbrev oM : Memref sig .tc .vmem S1024x4096 .f32 := Memref.whole cc0_stg0_0
abbrev r8M : Memref sig .tc .vmem S4x1024x1024 .fp8e4m3 := Memref.whole cc0_scratch0
abbrev r16M : Memref sig .tc .vmem S4x1024x1024 .bf16 := Memref.whole cc0_scratch1
abbrev s8M : Memref sig .tc .vmem S4x1024x1024 .fp8e4m3 := Memref.whole cc0_scratch2
abbrev s16M : Memref sig .tc .vmem S3x1024x1024 .bf16 := Memref.whole cc0_scratch3
abbrev xsM : Memref sig .tc .vmem S2x512x1024 .f32 := Memref.whole cc0_scratch4
abbrev wsM : Memref sig .tc .vmem S2x1024x1024 .f32 := Memref.whole cc0_scratch5

theorem inb4 {k : ℕ} (h : k < 4) : ∀ a, (![k, 0, 0] : Fin 3 → ℕ) a + S1x1024x1024.size a ≤ S4x1024x1024.size a := by
  intro a; fin_cases a
  · show k + 1 ≤ 4; omega
  · show 0 + 1024 ≤ 1024; omega
  · show 0 + 1024 ≤ 1024; omega
theorem inb3 {k : ℕ} (h : k < 3) : ∀ a, (![k, 0, 0] : Fin 3 → ℕ) a + S1x1024x1024.size a ≤ S3x1024x1024.size a := by
  intro a; fin_cases a
  · show k + 1 ≤ 3; omega
  · show 0 + 1024 ≤ 1024; omega
  · show 0 + 1024 ≤ 1024; omega
theorem inb2w {k : ℕ} (h : k < 2) : ∀ a, (![k, 0, 0] : Fin 3 → ℕ) a + S1x1024x1024.size a ≤ S2x1024x1024.size a := by
  intro a; fin_cases a
  · show k + 1 ≤ 2; omega
  · show 0 + 1024 ≤ 1024; omega
  · show 0 + 1024 ≤ 1024; omega
theorem inb2x {k : ℕ} (h : k < 2) : ∀ a, (![k, 0, 0] : Fin 3 → ℕ) a + S1x512x1024.size a ≤ S2x512x1024.size a := by
  intro a; fin_cases a
  · show k + 1 ≤ 2; omega
  · show 0 + 512 ≤ 512; omega
  · show 0 + 1024 ≤ 1024; omega
theorem inb8s {k : ℕ} (h : k < 8) : ∀ a, (![k] : Fin 1 → ℕ) a + S1.size a ≤ S8.size a := by
  intro a; fin_cases a; show k + 1 ≤ 8; omega
theorem inb2s {k : ℕ} (h : k < 2) : ∀ a, (![k] : Fin 1 → ℕ) a + S1.size a ≤ S2.size a := by
  intro a; fin_cases a; show k + 1 ≤ 2; omega

/-- Slot `k` of a four-slot buffer, as the copies name it. -/
abbrev slot4 {e : EltTy} (M : Memref sig .tc .vmem S4x1024x1024 e) (k : ℕ) (h : k < 4) : Memref sig .tc .vmem S1024x1024 e :=
  (M.slice (Rect.unit (s := S4x1024x1024) ![k, 0, 0] S1x1024x1024.size (inb4 h)) (fun _ => rfl)).squeeze S1024x1024 squeezes_S1x1024x1024_S1024x1024
/-- Slot `k` of the three-slot buffer. -/
abbrev slot3 {e : EltTy} (M : Memref sig .tc .vmem S3x1024x1024 e) (k : ℕ) (h : k < 3) : Memref sig .tc .vmem S1024x1024 e :=
  (M.slice (Rect.unit (s := S3x1024x1024) ![k, 0, 0] S1x1024x1024.size (inb3 h)) (fun _ => rfl)).squeeze S1024x1024 squeezes_S1x1024x1024_S1024x1024
/-- Slot `k` of the weights' staging buffer. -/
abbrev slotW (k : ℕ) (h : k < 2) : Memref sig .tc .vmem S1024x1024 .f32 :=
  (wsM.slice (Rect.unit (s := S2x1024x1024) ![k, 0, 0] S1x1024x1024.size (inb2w h)) (fun _ => rfl)).squeeze S1024x1024 squeezes_S1x1024x1024_S1024x1024
/-- Slot `k` of the rows' staging buffer. -/
abbrev slotX (k : ℕ) (h : k < 2) : Memref sig .tc .vmem S512x1024 .f32 :=
  (xsM.slice (Rect.unit (s := S2x512x1024) ![k, 0, 0] S1x512x1024.size (inb2x h)) (fun _ => rfl)).squeeze S512x1024 squeezes_S1x512x1024_S512x1024

/-- The runtime's barrier semaphore; the send and receive semaphores of copy `k`; the staging semaphores. -/
abbrev barS : Sem sig := (SemArray.scalar (sig.barrier 0 rfl) : Sems sig S_).sem
abbrev sendS (k : ℕ) (h : k < 8) : DmaSem sig := ((cc0_scratch6.slice (Rect.unit (s := S8) ![k] S1.size (inb8s h))).squeeze S_ squeezes_S1_S_).sem
abbrev recvS (k : ℕ) (h : k < 8) : DmaSem sig := ((cc0_scratch7.slice (Rect.unit (s := S8) ![k] S1.size (inb8s h))).squeeze S_ squeezes_S1_S_).sem
abbrev xS (k : ℕ) (h : k < 2) : DmaSem sig := ((cc0_scratch8.slice (Rect.unit (s := S2) ![k] S1.size (inb2s h))).squeeze S_ squeezes_S1_S_).sem
abbrev wS (k : ℕ) (h : k < 2) : DmaSem sig := ((cc0_scratch9.slice (Rect.unit (s := S2) ![k] S1.size (inb2s h))).squeeze S_ squeezes_S1_S_).sem

abbrev barCell (c : Dev nD) : GSem nD τ sig := ((c : Thread nD τ), .reg barS)
abbrev sendCell (c : Dev nD) (k : ℕ) (h : k < 8) : GSem nD τ sig := ((c : Thread nD τ), .dma (sendS k h))
abbrev recvCell (c : Dev nD) (k : ℕ) (h : k < 8) : GSem nD τ sig := ((c : Thread nD τ), .dma (recvS k h))

theorem sendS_val : ∀ k : Fin 8, (sendS k.val k.isLt).val = 1 + k.val := by decide
theorem recvS_val : ∀ k : Fin 8, (recvS k.val k.isLt).val = 9 + k.val := by decide
theorem xS_val : ∀ k : Fin 2, (xS k.val k.isLt).val = 17 + k.val := by decide
theorem wS_val : ∀ k : Fin 2, (wS k.val k.isLt).val = 19 + k.val := by decide

/-- The elements of a memref on device `c`, held in full with contents `f`. -/
abbrev pts {sp : Space} {s : Shape} {e : EltTy} (M : Memref sig .tc sp s e) (c : Dev nD) (f : Buf (Elt F) (M.view.loc (c : Thread nD τ))) : sProp 𝕄 :=
  M.view.loc (c : Thread nD τ) ↦[M.view.set]{fullShare} f

abbrev N8 : ℕ := (slot4 r8M 0 (by decide)).view.dmaCredit
abbrev N16 : ℕ := (slot4 r16M 1 (by decide)).view.dmaCredit
theorem N8_pos : 0 < N8 := View.dmaCredit_pos _ (by decide)
theorem N16_pos : 0 < N16 := View.dmaCredit_pos _ (by decide)

/-! ## The contents the copies carry -/

/-- Device `c`'s columns of `x`. -/
def X (c : Dev nD) : Vec F S8192x1024 .f32 := m ((c : Thread nD τ).loc main_arg0)
/-- Device `c`'s copy of the weights. -/
def Wt (c : Dev nD) : Vec F S8192x4096 .f32 := m ((c : Thread nD τ).loc main_arg1)

/-- The index of row `r` of block `b`, column `j`, of a device's columns of `x`. -/
def xIdx (b : Dev nD) (r : Fin 1024) (j : Fin 1024) : S8192x1024.Idx :=
  Shape.pair (d := ![8192, 1024]) (⟨b.val * 1024 + r.val, by have := b.isLt; have : b.val < 8 := this; show _ < 8192; omega⟩ : Fin 8192) j

/-- What device `c` sends in the narrow format: in slot `k`, its rows for the device `k + 1` places after it. -/
def send8 (c : Dev nD) : FVec F S4x1024x1024 .fp8e4m3 :=
  truncf .fp8e4m3 (fun i => X m c (xIdx (peer c ((i 0).val + 1)) (i 1) (i 2)) : FVec F S4x1024x1024 .f32) bitsLt_fp8e4m3_f32
/-- What it sends in the wide format: in slot `k`, its rows for the device `k + 5` places after it. -/
def send16 (c : Dev nD) : FVec F S3x1024x1024 .bf16 :=
  truncf .bf16 (fun i => X m c (xIdx (peer c ((i 0).val + 5)) (i 1) (i 2)) : FVec F S3x1024x1024 .f32) bitsLt_bf16_f32
/-- What device `c` receives in the narrow format: in slot `k`, block `c` of the device `k + 1` places before it. -/
def recv8 (c : Dev nD) : FVec F S4x1024x1024 .fp8e4m3 :=
  truncf .fp8e4m3 (fun i => X m (peer c (7 - (i 0).val)) (xIdx c (i 1) (i 2)) : FVec F S4x1024x1024 .f32) bitsLt_fp8e4m3_f32
/-- What it receives in the wide format: in slot `k ≥ 1`, block `c` of the device `k + 4` places before it. -/
def recv16 (c : Dev nD) : FVec F S4x1024x1024 .bf16 :=
  truncf .bf16 (fun i => X m (peer c (4 - (i 0).val)) (xIdx c (i 1) (i 2)) : FVec F S4x1024x1024 .f32) bitsLt_bf16_f32

/-! ## The schedule -/

/-- Device `c`'s landing slot for copy `k`, contents arbitrary. -/
def landPay (c : Dev nD) : ℕ → sProp 𝕄
  | 1 => iprop(∃ f, pts (slot4 r8M 0 (by decide)) c f)
  | 2 => iprop(∃ f, pts (slot4 r8M 1 (by decide)) c f)
  | 3 => iprop(∃ f, pts (slot4 r8M 2 (by decide)) c f)
  | 4 => iprop(∃ f, pts (slot4 r8M 3 (by decide)) c f)
  | 5 => iprop(∃ f, pts (slot4 r16M 1 (by decide)) c f)
  | 6 => iprop(∃ f, pts (slot4 r16M 2 (by decide)) c f)
  | 7 => iprop(∃ f, pts (slot4 r16M 3 (by decide)) c f)
  | _ => iprop(emp)
/-- The source slot of device `c`'s copy `k`, contents arbitrary. -/
def sendPay (c : Dev nD) : ℕ → sProp 𝕄
  | 1 => iprop(∃ f, pts (slot4 s8M 0 (by decide)) c f)
  | 2 => iprop(∃ f, pts (slot4 s8M 1 (by decide)) c f)
  | 3 => iprop(∃ f, pts (slot4 s8M 2 (by decide)) c f)
  | 4 => iprop(∃ f, pts (slot4 s8M 3 (by decide)) c f)
  | 5 => iprop(∃ f, pts (slot3 s16M 0 (by decide)) c f)
  | 6 => iprop(∃ f, pts (slot3 s16M 1 (by decide)) c f)
  | 7 => iprop(∃ f, pts (slot3 s16M 2 (by decide)) c f)
  | _ => iprop(emp)
/-- Device `c`'s landing slot for copy `k`, holding what the copy carries. -/
def recvPay (c : Dev nD) : ℕ → sProp 𝕄
  | 1 => pts (slot4 r8M 0 (by decide)) c (recv8 m c)
  | 2 => pts (slot4 r8M 1 (by decide)) c (recv8 m c)
  | 3 => pts (slot4 r8M 2 (by decide)) c (recv8 m c)
  | 4 => pts (slot4 r8M 3 (by decide)) c (recv8 m c)
  | 5 => pts (slot4 r16M 1 (by decide)) c (recv16 m c)
  | 6 => pts (slot4 r16M 2 (by decide)) c (recv16 m c)
  | 7 => pts (slot4 r16M 3 (by decide)) c (recv16 m c)
  | _ => iprop(emp)
/-! The tables read at each copy. -/
omit [FloatOps F] in
theorem landPay_1 (c : Dev nD) : landPay (F := F) c 1 = iprop(∃ f, pts (slot4 r8M 0 (by decide)) c f) := rfl
omit [FloatOps F] in
theorem landPay_2 (c : Dev nD) : landPay (F := F) c 2 = iprop(∃ f, pts (slot4 r8M 1 (by decide)) c f) := rfl
omit [FloatOps F] in
theorem landPay_3 (c : Dev nD) : landPay (F := F) c 3 = iprop(∃ f, pts (slot4 r8M 2 (by decide)) c f) := rfl
omit [FloatOps F] in
theorem landPay_4 (c : Dev nD) : landPay (F := F) c 4 = iprop(∃ f, pts (slot4 r8M 3 (by decide)) c f) := rfl
omit [FloatOps F] in
theorem landPay_5 (c : Dev nD) : landPay (F := F) c 5 = iprop(∃ f, pts (slot4 r16M 1 (by decide)) c f) := rfl
omit [FloatOps F] in
theorem landPay_6 (c : Dev nD) : landPay (F := F) c 6 = iprop(∃ f, pts (slot4 r16M 2 (by decide)) c f) := rfl
omit [FloatOps F] in
theorem landPay_7 (c : Dev nD) : landPay (F := F) c 7 = iprop(∃ f, pts (slot4 r16M 3 (by decide)) c f) := rfl
omit [FloatOps F] in
theorem sendPay_1 (c : Dev nD) : sendPay (F := F) c 1 = iprop(∃ f, pts (slot4 s8M 0 (by decide)) c f) := rfl
omit [FloatOps F] in
theorem sendPay_2 (c : Dev nD) : sendPay (F := F) c 2 = iprop(∃ f, pts (slot4 s8M 1 (by decide)) c f) := rfl
omit [FloatOps F] in
theorem sendPay_3 (c : Dev nD) : sendPay (F := F) c 3 = iprop(∃ f, pts (slot4 s8M 2 (by decide)) c f) := rfl
omit [FloatOps F] in
theorem sendPay_4 (c : Dev nD) : sendPay (F := F) c 4 = iprop(∃ f, pts (slot4 s8M 3 (by decide)) c f) := rfl
omit [FloatOps F] in
theorem sendPay_5 (c : Dev nD) : sendPay (F := F) c 5 = iprop(∃ f, pts (slot3 s16M 0 (by decide)) c f) := rfl
omit [FloatOps F] in
theorem sendPay_6 (c : Dev nD) : sendPay (F := F) c 6 = iprop(∃ f, pts (slot3 s16M 1 (by decide)) c f) := rfl
omit [FloatOps F] in
theorem sendPay_7 (c : Dev nD) : sendPay (F := F) c 7 = iprop(∃ f, pts (slot3 s16M 2 (by decide)) c f) := rfl
theorem recvPay_1 (c : Dev nD) : recvPay m c 1 = pts (slot4 r8M 0 (by decide)) c (recv8 m c) := rfl
theorem recvPay_2 (c : Dev nD) : recvPay m c 2 = pts (slot4 r8M 1 (by decide)) c (recv8 m c) := rfl
theorem recvPay_3 (c : Dev nD) : recvPay m c 3 = pts (slot4 r8M 2 (by decide)) c (recv8 m c) := rfl
theorem recvPay_4 (c : Dev nD) : recvPay m c 4 = pts (slot4 r8M 3 (by decide)) c (recv8 m c) := rfl
theorem recvPay_5 (c : Dev nD) : recvPay m c 5 = pts (slot4 r16M 1 (by decide)) c (recv16 m c) := rfl
theorem recvPay_6 (c : Dev nD) : recvPay m c 6 = pts (slot4 r16M 2 (by decide)) c (recv16 m c) := rfl
theorem recvPay_7 (c : Dev nD) : recvPay m c 7 = pts (slot4 r16M 3 (by decide)) c (recv16 m c) := rfl

/-- What duty `k` of `c`'s barrier cell hands over: the landing slot `k` of the device that pays it, and that the
    device has reached its receive cell's round. -/
def barPay (c : Dev nD) (k : ℕ) : sProp 𝕄 :=
  if h : k < 8 then iprop(landPay (peer c k) k ∗ reached ER (recvCell (peer c k) k h) 0) else iprop(emp)

omit [FloatOps F] in
instance landPay_storable (c : Dev nD) (k : ℕ) : BI.Storable (upEmb : UEmb _ 𝕄) (landPay (F := F) c k) := by
  unfold landPay; split <;> infer_instance
omit [FloatOps F] in
instance sendPay_storable (c : Dev nD) (k : ℕ) : BI.Storable (upEmb : UEmb _ 𝕄) (sendPay (F := F) c k) := by
  unfold sendPay; split <;> infer_instance
instance recvPay_storable (c : Dev nD) (k : ℕ) : BI.Storable (upEmb : UEmb _ 𝕄) (recvPay m c k) := by
  unfold recvPay; split <;> infer_instance
omit [FloatOps F] in
instance barPay_storable (c : Dev nD) (k : ℕ) : BI.Storable (upEmb : UEmb _ 𝕄) (barPay (F := F) c k) := by
  unfold barPay; split <;> infer_instance

/-- The transfer credit of copy `k`: of a narrow slot up to 4, of a wide one after. -/
def Nof (k : ℕ) : ℕ := if k < 5 then N8 else N16
theorem Nof_pos (k : ℕ) : 0 < Nof k := by unfold Nof; split; exacts [N8_pos, N16_pos]

/-- One round: a barrier cell has seven unit duties, a send or receive cell one duty of its slot's credit. -/
def sched : Rounds.Schedule (GSem nD τ sig) ℕ 𝕄 where
  duties g r :=
    if r = 0 ∧ g.1.2 = .tc then
      match g.2 with
      | .reg _ => {1, 2, 3, 4, 5, 6, 7}
      | .dma s => if (2 ≤ s.val ∧ s.val ≤ 8) ∨ (10 ≤ s.val ∧ s.val ≤ 16) then {0} else ∅
    else ∅
  unitless _ := False
  amount g _ _ :=
    match g.2 with
    | .reg _ => 1
    | .dma s => if s.val < 9 then Nof (s.val - 1) else Nof (s.val - 9)
  payload g _ d :=
    match g.2 with
    | .reg _ => barPay g.1.1 d
    | .dma s => if s.val < 9 then sendPay g.1.1 (s.val - 1) else recvPay m g.1.1 (s.val - 9)
  amount_pos g _ _ _ := by
    rcases g with ⟨_, _ | s⟩
    · exact Nat.one_pos
    · show 0 < (if s.val < 9 then Nof (s.val - 1) else Nof (s.val - 9))
      split <;> exact Nof_pos _

instance sched_payload_storable (g : GSem nD τ sig) (r d : ℕ) : BI.Storable (upEmb : UEmb _ 𝕄) ((sched m).payload g r d) := by
  rcases g with ⟨t, _ | s⟩
  · show BI.Storable upEmb (barPay (F := F) t.1 d); infer_instance
  · show BI.Storable upEmb (if s.val < 9 then sendPay (F := F) t.1 (s.val - 1) else recvPay m t.1 (s.val - 9))
    split <;> infer_instance

section Tables
variable (c : Dev nD)

theorem duties_bar : (sched m).duties (barCell c) 0 = {1, 2, 3, 4, 5, 6, 7} := by
  dsimp only [sched]; exact if_pos ⟨rfl, rfl⟩
theorem duties_send (k : ℕ) (h : k < 8) (h0 : 0 < k) : (sched m).duties (sendCell c k h) 0 = {0} := by
  dsimp only [sched]; rw [if_pos ⟨rfl, rfl⟩]
  have := sendS_val ⟨k, h⟩
  refine if_pos (Or.inl ?_)
  dsimp only at this; omega
theorem duties_recv (k : ℕ) (h : k < 8) (h0 : 0 < k) : (sched m).duties (recvCell c k h) 0 = {0} := by
  dsimp only [sched]; rw [if_pos ⟨rfl, rfl⟩]
  have := recvS_val ⟨k, h⟩
  refine if_pos (Or.inr ?_)
  dsimp only at this; omega
theorem duties_later (g : GSem nD τ sig) : ∀ r, 1 ≤ r → (sched m).duties g r = ∅ :=
  fun r hr => by dsimp only [sched]; rw [if_neg fun h => by omega]

theorem amount_bar (d : ℕ) : (sched m).amount (barCell c) 0 d = 1 := rfl
theorem amount_send (k : ℕ) (h : k < 8) (d : ℕ) : (sched m).amount (sendCell c k h) 0 d = Nof k := by
  have := sendS_val ⟨k, h⟩
  dsimp only at this
  show (if (sendS k h).val < 9 then Nof ((sendS k h).val - 1) else Nof ((sendS k h).val - 9)) = _
  rw [this, if_pos (by omega), Nat.add_sub_cancel_left]
theorem amount_recv (k : ℕ) (h : k < 8) (d : ℕ) : (sched m).amount (recvCell c k h) 0 d = Nof k := by
  have := recvS_val ⟨k, h⟩
  dsimp only at this
  show (if (recvS k h).val < 9 then Nof ((recvS k h).val - 1) else Nof ((recvS k h).val - 9)) = _
  rw [this, if_neg (by omega), Nat.add_sub_cancel_left]
theorem payload_bar (d : ℕ) : (sched m).payload (barCell c) 0 d = barPay c d := rfl
theorem payload_send (k : ℕ) (h : k < 8) (d : ℕ) : (sched m).payload (sendCell c k h) 0 d = sendPay c k := by
  have := sendS_val ⟨k, h⟩
  dsimp only at this
  show (if (sendS k h).val < 9 then sendPay c ((sendS k h).val - 1) else recvPay m c ((sendS k h).val - 9)) = _
  rw [this, if_pos (by omega), Nat.add_sub_cancel_left]
theorem payload_recv (k : ℕ) (h : k < 8) (d : ℕ) : (sched m).payload (recvCell c k h) 0 d = recvPay m c k := by
  have := recvS_val ⟨k, h⟩
  dsimp only at this
  show (if (recvS k h).val < 9 then sendPay c ((recvS k h).val - 1) else recvPay m c ((recvS k h).val - 9)) = _
  rw [this, if_neg (by omega), Nat.add_sub_cancel_left]

theorem expect_bar : (sched m).expect (barCell c) 0 = 7 := by
  unfold Schedule.expect Schedule.amountOf
  rw [duties_bar, Finset.sum_congr rfl fun d _ => amount_bar m c d]; rfl
theorem expect_send (k : ℕ) (h : k < 8) (h0 : 0 < k) : (sched m).expect (sendCell c k h) 0 = Nof k := by
  unfold Schedule.expect Schedule.amountOf; rw [duties_send m c k h h0, Finset.sum_singleton, amount_send]
theorem expect_recv (k : ℕ) (h : k < 8) (h0 : 0 < k) : (sched m).expect (recvCell c k h) 0 = Nof k := by
  unfold Schedule.expect Schedule.amountOf; rw [duties_recv m c k h h0, Finset.sum_singleton, amount_recv]

/-- The device whose cells a statement waits on: a mark that lets the tables below fire at that device only. -/
def Own (_ : Dev nD) : Prop := True
theorem own (c : Dev nD) : Own c := trivial

theorem pay_bar (k : ℕ) (hk : k < 8) (h : Own c) :
    (sched m).payload (barCell c) 0 k = iprop(landPay (peer c k) k ∗ reached ER (recvCell (peer c k) k hk) 0) := by
  rw [payload_bar]; unfold barPay; rw [dif_pos hk]
/-- What device `c` hands over with its signal to the device `j` places after it: its own landing slot `8 - j`. -/
theorem pay_sig (j k : ℕ) (hk : k < 8) (h : j + k = 8) :
    (sched m).payload (barCell (peer c j)) 0 k = iprop(landPay c k ∗ reached ER (recvCell c k hk) 0) := by
  rw [payload_bar]; unfold barPay; rw [dif_pos hk, peer_peer c h]

end Tables

/-! ## What a device owes, and the levels -/

/-- One unit to the barrier cell of the device `k` places after `c`. -/
def tB (c : Dev nD) (k : ℕ) : CellTallies nD τ sig Unit := tallyAt (barCell (peer c k)) () 1
/-- Copy `k`'s credit to the receive cell of the device `k` places after `c`. -/
def tR (c : Dev nD) (k : ℕ) : CellTallies nD τ sig Unit := if h : k < 8 then tallyAt (recvCell (peer c k) k h) () (Nof k) else 0

/-- The copies from the `j`-th on, still owed. -/
def oR (c : Dev nD) (j : ℕ) : CellTallies nD τ sig Unit := ∑ k ∈ Finset.Ico j 8, tR c k
/-- The barrier units, all owed. -/
def oB (c : Dev nD) : CellTallies nD τ sig Unit := ∑ k ∈ Finset.Ico 1 8, tB c k
/-- What device `c` owes at launch. -/
def O₀ (c : Dev nD) : CellTallies nD τ sig Unit := oR c 1 + oB c

theorem oR_last (c : Dev nD) : oR c 8 = 0 := by unfold oR; rw [Finset.Ico_self, Finset.sum_empty]
theorem oR_step (c : Dev nD) (j : ℕ) (h : j < 8) : oR c j = oR c (j + 1) + tallyAt (recvCell (peer c j) j h) () (Nof j) := by
  unfold oR
  rw [Finset.sum_eq_sum_Ico_succ_bot h, add_comm]
  congr 1
  unfold tR; rw [dif_pos h]
theorem oB_eq (c : Dev nD) : oB c = tallyAt (barCell (peer c 1)) () 1 + tallyAt (barCell (peer c 2)) () 1 + tallyAt (barCell (peer c 3)) () 1
    + tallyAt (barCell (peer c 4)) () 1 + tallyAt (barCell (peer c 5)) () 1 + tallyAt (barCell (peer c 6)) () 1 + tallyAt (barCell (peer c 7)) () 1 := by
  unfold oB
  simp only [Finset.sum_Ico_succ_top (by decide : 1 ≤ 7), Finset.sum_Ico_succ_top (by decide : 1 ≤ 6), Finset.sum_Ico_succ_top (by decide : 1 ≤ 5),
    Finset.sum_Ico_succ_top (by decide : 1 ≤ 4), Finset.sum_Ico_succ_top (by decide : 1 ≤ 3), Finset.sum_Ico_succ_top (by decide : 1 ≤ 2),
    Finset.sum_Ico_succ_top (by decide : 1 ≤ 1), Finset.Ico_self, Finset.sum_empty, zero_add]
  rfl

def L (g : GSem nD τ sig) : Finset Unit := if g.1.2 = .tc then {()} else ∅
/-- Barrier cells at 1, receive cells at 2, all else at 0. -/
def lv (g : GSem nD τ sig) (_ : Unit) : ℕ :=
  match g.2 with
  | .reg _ => 1
  | .dma s => if 10 ≤ s.val ∧ s.val ≤ 16 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (k : ℕ) (h : k < 8) (h0 : 0 < k) (u : Unit) : lv (recvCell c k h) u = 2 := by
  have := recvS_val ⟨k, h⟩
  dsimp only at this
  show (if 10 ≤ (recvS k h).val ∧ (recvS k h).val ≤ 16 then 2 else 0) = 2
  rw [this]; exact if_pos (by omega)

theorem tR_pos {c : Dev nD} {k : ℕ} {g : GSem nD τ sig} {u : Unit} (h : 0 < tR c k g u) : ∃ hk : k < 8, g = recvCell (peer c k) k hk := by
  unfold tR at h
  split at h
  · rename_i hk
    refine ⟨hk, ?_⟩
    rw [tallyAt_apply] at h
    by_contra hn
    rw [if_neg (fun h' => hn h'.1)] at h
    exact Nat.lt_irrefl 0 h
  · exact absurd h (Nat.lt_irrefl 0)
theorem tB_pos {c : Dev nD} {k : ℕ} {g : GSem nD τ sig} {u : Unit} (h : 0 < tB c k g u) : g = barCell (peer c k) := by
  unfold tB at h
  rw [tallyAt_apply] at h
  by_contra hn
  rw [if_neg (fun h' => hn h'.1)] at h
  exact Nat.lt_irrefl 0 h
theorem sum_pos {s : Finset ℕ} {f : ℕ → CellTallies nD τ sig Unit} {g : GSem nD τ sig} {u : Unit} (h : 0 < (∑ k ∈ s, f k) g u) : ∃ k ∈ s, 0 < f k g u := by
  rw [Finset.sum_apply, Finsupp.finset_sum_apply] at h
  by_contra hn
  push Not at hn
  exact absurd h (by rw [Finset.sum_eq_zero fun k hk => Nat.le_zero.mp (hn k hk)]; exact Nat.lt_irrefl 0)
theorem oR_pos {c : Dev nD} {j : ℕ} (hj : 1 ≤ j) {g : GSem nD τ sig} {u : Unit} (h : 0 < oR c j g u) : ∃ k, ∃ hk : k < 8, 0 < k ∧ g = recvCell (peer c k) k hk := by
  obtain ⟨k, hk, hp⟩ := sum_pos h
  obtain ⟨h8, hg⟩ := tR_pos hp
  exact ⟨k, h8, by have := (Finset.mem_Ico.mp hk).1; omega, hg⟩
theorem O₀_pos {c : Dev nD} {g : GSem nD τ sig} {u : Unit} (h : 0 < O₀ c g u) :
    (∃ k, ∃ hk : k < 8, 0 < k ∧ g = recvCell (peer c k) k hk) ∨ ∃ k, g = barCell (peer c k) := by
  unfold O₀ at h
  rw [Pi.add_apply, Finsupp.add_apply] at h
  rcases Nat.eq_zero_or_pos (oR c 1 g u) with h0 | h0
  · rw [h0, zero_add] at h
    obtain ⟨k, _, hp⟩ := sum_pos h
    exact Or.inr ⟨k, tB_pos hp⟩
  · exact Or.inl (oR_pos le_rfl h0)

omit [FloatOps F] in
/-- While only copies are owed, a device may wait on any cell of its own that is not a receive cell. -/
theorem mayWait_oR (c : Dev nD) (j : ℕ) (hj : 1 ≤ j) (sm : SemLoc sig) (hsm : lv ((c : Thread nD τ), sm) () ≤ 1) :
    (levAts L lv : sProp 𝕄) ⊢ MayWait (c : Thread nD τ) sm () (oR c j) :=
  MayOwe.of_cut (L := L) (lev := lv) 1 (fun p hp => by rw [Finset.mem_singleton.mp hp, L_tc]; exact Finset.mem_singleton_self _)
    (fun g u hg => by obtain ⟨k, hk, _, rfl⟩ := oR_pos hj hg; exact Finset.mem_singleton_self _)
    (fun p hp => by rw [Finset.mem_singleton.mp hp]; exact hsm)
    (fun g u hg => by obtain ⟨k, hk, h0, rfl⟩ := oR_pos hj hg; rw [lv_recv _ _ _ h0]; decide)
omit [FloatOps F] in
theorem mayWait_bar (c : Dev nD) : (levAts L lv : sProp 𝕄) ⊢ MayWait (c : Thread nD τ) (.reg barS) () (oR c 1) :=
  mayWait_oR c 1 le_rfl _ le_rfl
omit [FloatOps F] in
theorem mayWait_x (c : Dev nD) (j k : ℕ) (hk : k < 2) : (levAts L lv : sProp 𝕄) ⊢ MayWait (c : Thread nD τ) (.dma (xS k hk)) () (oR c (j + 1)) :=
  mayWait_oR c (j + 1) (by omega) _ (by
    have := xS_val ⟨k, hk⟩
    dsimp only at this
    show (if 10 ≤ (xS k hk).val ∧ (xS k hk).val ≤ 16 then 2 else 0) ≤ 1
    rw [this, if_neg (by omega)]; decide)
omit [FloatOps F] in
/-- The output's staging cell, at launch and at the end. -/
theorem mayWait_stage (c : Dev nD) (q : DmaSem sig) (hq : q.val < 10 ∨ 16 < q.val) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨_, _, _, rfl⟩ | ⟨_, rfl⟩ <;> exact Finset.mem_singleton_self _)
      (fun p hp => by
        rw [Finset.mem_singleton.mp hp]
        show (if 10 ≤ q.val ∧ q.val ≤ 16 then 2 else 0) ≤ 0
        rw [if_neg (by omega)])
      (fun g u hg => by
        rcases O₀_pos hg with ⟨_, _, h0, rfl⟩ | ⟨_, rfl⟩
        · rw [lv_recv _ _ _ h0]; decide
        · show 0 < 1; decide)
  · rw [MayWait_zero]; iintro -; iempintro

attribute [irreducible] peer Own

end Cert.KernelIdeal.A2A

end
-- ==== Proof.KernelIdeal.Vals.lean ====
module

public import proofs.«01_k».proof.Proof.KernelIdeal.Proto
public import Idealize.ShloMosaic.Lib.WritesUnit
public import Idealize.ShloMosaic.Lib.ValueIdx
public import Idealize.ShloMosaic.Lib.ValueLayout
public import Idealize.ShloMosaic.Lib.Pipeline.Value

/- What the staging, sending and landing slots hold, as functions of an index. A slot's contents matter only through what
   the slot reads, so each statement here is about reads; the last section turns equal reads into equal assertions. -/

@[expose] public section

noncomputable section

namespace Cert.KernelIdeal.A2A

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## Reads decide -/

omit [FloatOps F] in
/-- Two contents that a memref reads alike are held alike. -/
theorem pts_congr {sp : Space} {s : Shape} {e : EltTy} (M : Memref sig .tc sp s e) (c : Dev nD) (f g : Buf (Elt F) (M.view.loc (c : Thread nD τ)))
    (h : ∀ x, M.view.read (Elt F) f x = M.view.read (Elt F) g x) : pts M c f = pts M c g := by
  refine pointsTo_congr fun i hi => ?_
  obtain ⟨x, _, rfl⟩ := Finset.mem_map.mp hi
  have := h x
  rw [View.read_apply, View.read_apply] at this
  exact (cast_inj _).mp this

/-- The index of row `a`, column `b` of slot `k`. -/
abbrev tri {n : ℕ} (k : ℕ) (h : k < n) (a b : Fin 1024) : (⟨3, ![n, 1024, 1024]⟩ : Shape).Idx := ix3 (⟨k, h⟩ : Fin n) a b

theorem inbN {n k : ℕ} (h : k < n) : ∀ a, (![k, 0, 0] : Fin 3 → ℕ) a + S1x1024x1024.size a ≤ (⟨3, ![n, 1024, 1024]⟩ : Shape).size a := by
  intro a; fin_cases a
  · show k + 1 ≤ n; omega
  · show 0 + 1024 ≤ 1024; omega
  · show 0 + 1024 ≤ 1024; omega

/-- Slot `k` of an `n`-slot buffer. -/
abbrev slotN {n : ℕ} {e : EltTy} (M : Memref sig .tc .vmem ⟨3, ![n, 1024, 1024]⟩ e) (k : ℕ) (h : k < n) : Memref sig .tc .vmem S1024x1024 e :=
  (M.slice (Rect.unit (s := ⟨3, ![n, 1024, 1024]⟩) ![k, 0, 0] S1x1024x1024.size (inbN h)) (fun _ => rfl)).squeeze S1024x1024 squeezes_S1x1024x1024_S1024x1024

omit [FloatOps F] in
/-- A slot reads the buffer at its row and column. -/
theorem slotN_read {n : ℕ} {e : EltTy} (M : Memref sig .tc .vmem ⟨3, ![n, 1024, 1024]⟩ e) (k : ℕ) (h : k < n) (f : M.view.ty.Contents (Elt F)) (a b : Fin 1024) :
    (slotN M k h).view.read (Elt F) f (ix2 a b) = M.view.read (Elt F) f (tri k h a b) := by
  rw [Memref.read_squeeze_slice M (Rect.unit (s := ⟨3, ![n, 1024, 1024]⟩) ![k, 0, 0] S1x1024x1024.size (inbN h)) (fun _ => rfl)
    squeezes_S1x1024x1024_S1024x1024 shapeCasts_S1x1024x1024_S1024x1024 f]
  rw [shapeCast_1ab_ab_apply]
  show M.view.read (Elt F) f _ = _
  congr 1
  funext d; apply Fin.ext
  fin_cases d
  · show k + 1 * 0 = k; omega
  · show 0 + 1 * a.val = a.val; omega
  · show 0 + 1 * b.val = b.val; omega

/-! ## Staged rows and weights -/

omit [FloatOps F] in
theorem read_whole_cons {s : Shape} {e : EltTy} {κ : Kind} {sp : Space} (v : View sig κ sp s e) (f : v.ty.Contents (Elt F)) (w : s.Idx → Elt F e)
    (L : List (View.Piece (Elt F) s e)) : v.read (Elt F) (v.writes (Elt F) f ((⟨Rect.whole s, w⟩ : View.Piece (Elt F) s e) :: L)) = w := by
  funext x
  refine (View.read_writes_cons_hit_of_coords v f (Rect.whole s) w L x x fun a => ?_)
  show (x a).val = 0 + 1 * (x a).val
  omega

omit [FloatOps F] in
/-- A staging slot of the rows, loaded after a copy landed in it, is what the copy carried. -/
theorem stageX (k : ℕ) (hk : k < 2) (f : xsM.view.ty.Contents (Elt F)) (L : List (View.Piece (Elt F) S512x1024 .f32)) (v : S512x1024.Idx → Elt F .f32)
    (inb : ∀ a, (![k, 0, 0] : Fin 3 → ℕ) a + S1x512x1024.size a ≤ S2x512x1024.size a) (hc : S1x512x1024.ShapeCasts S512x1024) :
    shapeCast S512x1024 (View.readAt (Elt F) xsM.view (Rect.unit (s := S2x512x1024) ![k, 0, 0] S1x512x1024.size inb).toLoadRect
      ((slotX k hk).view.writes (Elt F) f ((⟨Rect.whole S512x1024, v⟩ : View.Piece (Elt F) S512x1024 .f32) :: L))) hc = v :=
  (Memref.read_squeeze_slice xsM (Rect.unit (s := S2x512x1024) ![k, 0, 0] S1x512x1024.size inb) (fun _ => rfl) squeezes_S1x512x1024_S512x1024 hc _).symm.trans
    (read_whole_cons (slotX k hk).view f v L)

omit [FloatOps F] in
/-- The same of the weights. -/
theorem stageW (k : ℕ) (hk : k < 2) (f : wsM.view.ty.Contents (Elt F)) (L : List (View.Piece (Elt F) S1024x1024 .f32)) (v : S1024x1024.Idx → Elt F .f32)
    (inb : ∀ a, (![k, 0, 0] : Fin 3 → ℕ) a + S1x1024x1024.size a ≤ S2x1024x1024.size a) (hc : S1x1024x1024.ShapeCasts S1024x1024) :
    shapeCast S1024x1024 (View.readAt (Elt F) wsM.view (Rect.unit (s := S2x1024x1024) ![k, 0, 0] S1x1024x1024.size inb).toLoadRect
      ((slotW k hk).view.writes (Elt F) f ((⟨Rect.whole S1024x1024, v⟩ : View.Piece (Elt F) S1024x1024 .f32) :: L))) hc = v :=
  (Memref.read_squeeze_slice wsM (Rect.unit (s := S2x1024x1024) ![k, 0, 0] S1x1024x1024.size inb) (fun _ => rfl) squeezes_S1x1024x1024_S1024x1024 hc _).symm.trans
    (read_whole_cons (slotW k hk).view f v L)

/-! ## The rows and the weights' blocks the copies name -/

theorem off1_eq : ∀ (c : Dev nD) (o : Fin 8) (h : Fin 2),
    k0_off1 c (BitVec.ofNat 32 o.val) (BitVec.ofNat 32 (512 * h.val)) = ![((c.val + o.val) % 8) * 1024 + 512 * h.val, 0] := by decide +kernel
theorem off2_eq : ∀ (c : Dev nD) (o : Fin 8), k0_off2 c (BitVec.ofNat 32 o.val) = ![((c.val + (8 - o.val)) % 8) * 1024, 0] := by decide +kernel
theorem off3_eq : ∀ (c : Dev nD) (o : Fin 8), k0_off3 c (BitVec.ofNat 32 o.val) = ![((c.val + (8 - o.val)) % 8) * 1024, 1024] := by decide +kernel
theorem off4_eq : ∀ (c : Dev nD) (o : Fin 8), k0_off4 c (BitVec.ofNat 32 o.val) = ![((c.val + (8 - o.val)) % 8) * 1024, 2048] := by decide +kernel
theorem off5_eq : ∀ (c : Dev nD) (o : Fin 8), k0_off5 c (BitVec.ofNat 32 o.val) = ![((c.val + (8 - o.val)) % 8) * 1024, 3072] := by decide +kernel

/-- Row `r` of block `b` and column `j` of quarter `q` of the weights. -/
def wIdx (b : Dev nD) (q : Fin 4) (r j : Fin 1024) : S8192x4096.Idx :=
  ix2 (⟨b.val * 1024 + r.val, by have := b.isLt; have : b.val < 8 := this; omega⟩ : Fin 8192) (⟨q.val * 1024 + j.val, by omega⟩ : Fin 4096)

/-- Row `a` of half `h`. -/
abbrev half (h : Fin 2) (a : Fin 512) : Fin 1024 := ⟨512 * h.val + a.val, by omega⟩

omit [FloatOps F] in
/-- The copied rows of `x`. -/
theorem xRows (c b : Dev nD) (h : Fin 2) {off : Fin 2 → ℕ} (hoff : off = ![b.val * 1024 + 512 * h.val, 0])
    (inb : ∀ a, off a + S512x1024.size a ≤ S8192x1024.size a) (hs) (a : Fin 512) (j : Fin 1024) :
    View.read (Elt F) (xM.slice (Rect.unit (s := S8192x1024) off S512x1024.size inb) hs).view (X m c) (ix2 a j) = X m c (xIdx b (half h a) j) := by
  subst hoff
  show X m c _ = X m c _
  congr 1
  funext d; apply Fin.ext
  fin_cases d
  · show b.val * 1024 + 512 * h.val + 1 * a.val = b.val * 1024 + (512 * h.val + a.val); omega
  · show 0 + 1 * j.val = j.val; omega

omit [FloatOps F] in
/-- The copied block of the weights. -/
theorem wBlk (c b : Dev nD) (q : Fin 4) {off : Fin 2 → ℕ} (hoff : off = ![b.val * 1024, q.val * 1024])
    (inb : ∀ a, off a + S1024x1024.size a ≤ S8192x4096.size a) (hs) (a j : Fin 1024) :
    View.read (Elt F) (wM.slice (Rect.unit (s := S8192x4096) off S1024x1024.size inb) hs).view (Wt m c) (ix2 a j) = Wt m c (wIdx b q a j) := by
  subst hoff
  show Wt m c _ = Wt m c _
  congr 1
  funext d; apply Fin.ext
  fin_cases d
  · show b.val * 1024 + 1 * a.val = b.val * 1024 + a.val; omega
  · show q.val * 1024 + 1 * j.val = q.val * 1024 + j.val; omega

/-! ## A slot written in two halves -/

omit [FloatOps F] in
/-- A slot whose two halves were stored reads as `g`'s, if the stored halves are `g`'s. -/
theorem halves {n : ℕ} {e : EltTy} (M : Memref sig .tc .vmem ⟨3, ![n, 1024, 1024]⟩ e) (k : ℕ) (hk : k < n)
    (f g : M.view.ty.Contents (Elt F)) (p0 p1 : S1x512x1024.Idx → Elt F e)
    (inb0 : ∀ a, (![k, 0, 0] : Fin 3 → ℕ) a + S1x512x1024.size a ≤ (⟨3, ![n, 1024, 1024]⟩ : Shape).size a)
    (inb1 : ∀ a, (![k, 512, 0] : Fin 3 → ℕ) a + S1x512x1024.size a ≤ (⟨3, ![n, 1024, 1024]⟩ : Shape).size a)
    (h0 : ∀ a b, p0 (ix3 (0 : Fin 1) a b) = M.view.read (Elt F) g (tri k hk (half 0 a) b))
    (h1 : ∀ a b, p1 (ix3 (0 : Fin 1) a b) = M.view.read (Elt F) g (tri k hk (half 1 a) b)) :
    ∀ x, (slotN M k hk).view.read (Elt F) (View.write (Elt F) (M.access (Rect.unit (s := ⟨3, ![n, 1024, 1024]⟩) ![k, 512, 0] S1x512x1024.size inb1))
      (View.write (Elt F) (M.access (Rect.unit (s := ⟨3, ![n, 1024, 1024]⟩) ![k, 0, 0] S1x512x1024.size inb0)) f p0 Finset.univ) p1 Finset.univ) x
      = (slotN M k hk).view.read (Elt F) g x := by
  intro x
  obtain ⟨a, b, rfl⟩ : ∃ a b : Fin 1024, x = ix2 a b := ⟨x 0, x 1, eq_ix2 x⟩
  rw [slotN_read, slotN_read]
  show M.view.read (Elt F) (M.view.writes (Elt F) f [(⟨Rect.unit (s := ⟨3, ![n, 1024, 1024]⟩) ![k, 512, 0] S1x512x1024.size inb1, p1⟩ : View.Piece (Elt F) _ e),
    (⟨Rect.unit (s := ⟨3, ![n, 1024, 1024]⟩) ![k, 0, 0] S1x512x1024.size inb0, p0⟩ : View.Piece (Elt F) _ e)]) _ = _
  by_cases ha : a.val < 512
  · rw [View.read_writes_cons_unit_of_not_mem M.view f inb1 p1 _ _ rfl 1 (Or.inl ha)]
    rw [View.read_writes_cons_unit_of_mem M.view f inb0 p0 _ _ (ix3 (0 : Fin 1) (⟨a.val, ha⟩ : Fin 512) b) rfl fun d => by
      fin_cases d
      · show k = k + 0; omega
      · show a.val = 0 + a.val; omega
      · show b.val = 0 + b.val; omega]
    rw [h0]
    congr 3
    exact Fin.ext (by show 512 * 0 + a.val = a.val; omega)
  · rw [View.read_writes_cons_unit_of_mem M.view f inb1 p1 _ _ (ix3 (0 : Fin 1) (⟨a.val - 512, by omega⟩ : Fin 512) b) rfl fun d => by
      fin_cases d
      · show k = k + 0; omega
      · show a.val = 512 + (a.val - 512); omega
      · show b.val = 0 + b.val; omega]
    rw [h1]
    congr 3
    exact Fin.ext (by show 512 * 1 + (a.val - 512) = a.val; omega)

/-! ## What the halves and the slots carry -/

theorem offX (c : Dev nD) (o : Fin 8) (h : Fin 2) :
    k0_off1 c (BitVec.ofNat 32 o.val) (BitVec.ofNat 32 (512 * h.val)) = ![(peer c o.val).val * 1024 + 512 * h.val, 0] := by
  rw [peer_val]; exact off1_eq c o h
theorem offW0 (c : Dev nD) (o : Fin 8) : k0_off2 c (BitVec.ofNat 32 o.val) = ![(peer c (8 - o.val)).val * 1024, (0 : Fin 4).val * 1024] := by
  rw [peer_val]; exact off2_eq c o
theorem offW1 (c : Dev nD) (o : Fin 8) : k0_off3 c (BitVec.ofNat 32 o.val) = ![(peer c (8 - o.val)).val * 1024, (1 : Fin 4).val * 1024] := by
  rw [peer_val]; exact off3_eq c o
theorem offW2 (c : Dev nD) (o : Fin 8) : k0_off4 c (BitVec.ofNat 32 o.val) = ![(peer c (8 - o.val)).val * 1024, (2 : Fin 4).val * 1024] := by
  rw [peer_val]; exact off4_eq c o
theorem offW3 (c : Dev nD) (o : Fin 8) : k0_off5 c (BitVec.ofNat 32 o.val) = ![(peer c (8 - o.val)).val * 1024, (3 : Fin 4).val * 1024] := by
  rw [peer_val]; exact off5_eq c o

omit [FloatOps F] in
/-- Half `h` of the rows of `x` for the device `o` places on, as staged and loaded. -/
theorem stagedX (c : Dev nD) (o : Fin 8) (h : Fin 2) (k : ℕ) (hk : k < 2) (f : xsM.view.ty.Contents (Elt F))
    (L : List (View.Piece (Elt F) S512x1024 .f32)) (inb) (hs) (inb') (hc : S1x512x1024.ShapeCasts S512x1024) (a : Fin 512) (j : Fin 1024) :
    shapeCast S512x1024 (View.readAt (Elt F) xsM.view (Rect.unit (s := S2x512x1024) ![k, 0, 0] S1x512x1024.size inb').toLoadRect
      ((slotX k hk).view.writes (Elt F) f ((⟨Rect.whole S512x1024, ReadAs.same.apply (View.read (Elt F) (xM.slice (Rect.unit (s := S8192x1024)
        (k0_off1 c (BitVec.ofNat 32 o.val) (BitVec.ofNat 32 (512 * h.val))) S512x1024.size inb) hs).view (X m c))⟩ : View.Piece (Elt F) S512x1024 .f32) :: L))) hc (ix2 a j)
      = X m c (xIdx (peer c o.val) (half h a) j) := by
  rw [stageX k hk f L _ inb' hc]
  exact xRows m c (peer c o.val) h (offX c o h) inb hs a j

/-- A narrow half, as stored. -/
theorem stored8 (c : Dev nD) (i : ℕ) (hi : i < 4) (h : Fin 2) (v : Vec F S1x512x1024 .f32)
    (hv : ∀ (a : Fin 512) (j : Fin 1024), shapeCast S512x1024 v shapeCasts_S1x512x1024_S512x1024 (ix2 a j) = X m c (xIdx (peer c (i + 1)) (half h a) j))
    (a : Fin 512) (b : Fin 1024) :
    k0_pay1 v (ix3 (0 : Fin 1) a b) = s8M.view.read (Elt F) (send8 m c) (tri i hi (half h a) b) := by
  have e : k0_pay1 v (ix3 (0 : Fin 1) a b) = truncf .fp8e4m3 (shapeCast S512x1024 v shapeCasts_S1x512x1024_S512x1024) bitsLt_fp8e4m3_f32 (ix2 a b) :=
    shapeCast_ab_1ab_apply (truncf .fp8e4m3 (shapeCast S512x1024 v shapeCasts_S1x512x1024_S512x1024) bitsLt_fp8e4m3_f32) shapeCasts_S512x1024_S1x512x1024 0 a b
  rw [e]
  exact congrArg (fun z : F .f32 => FloatOps.truncf .fp8e4m3 bitsLt_fp8e4m3_f32 z) (hv a b)

/-- A wide half, as stored. -/
theorem stored16 (c : Dev nD) (i : ℕ) (hi : i < 3) (h : Fin 2) (v : Vec F S1x512x1024 .f32)
    (hv : ∀ (a : Fin 512) (j : Fin 1024), shapeCast S512x1024 v shapeCasts_S1x512x1024_S512x1024 (ix2 a j) = X m c (xIdx (peer c (i + 5)) (half h a) j))
    (a : Fin 512) (b : Fin 1024) :
    k0_pay17 v (ix3 (0 : Fin 1) a b) = s16M.view.read (Elt F) (send16 m c) (tri i hi (half h a) b) := by
  have e : k0_pay17 v (ix3 (0 : Fin 1) a b) = truncf .bf16 (shapeCast S512x1024 v shapeCasts_S1x512x1024_S512x1024) bitsLt_bf16_f32 (ix2 a b) :=
    shapeCast_ab_1ab_apply (truncf .bf16 (shapeCast S512x1024 v shapeCasts_S1x512x1024_S512x1024) bitsLt_bf16_f32) shapeCasts_S512x1024_S1x512x1024 0 a b
  rw [e]
  exact congrArg (fun z : F .f32 => FloatOps.truncf .bf16 bitsLt_bf16_f32 z) (hv a b)

/-- A device's own block in the wide format, in every slot. -/
def own16 (c : Dev nD) : FVec F S4x1024x1024 .bf16 :=
  truncf .bf16 (fun i => X m c (xIdx (peer c 0) (i 1) (i 2)) : FVec F S4x1024x1024 .f32) bitsLt_bf16_f32

/-- A half of a device's own block, as stored. -/
theorem storedOwn (c : Dev nD) (h : Fin 2) (v : Vec F S1x512x1024 .f32)
    (hv : ∀ (a : Fin 512) (j : Fin 1024), shapeCast S512x1024 v shapeCasts_S1x512x1024_S512x1024 (ix2 a j) = X m c (xIdx (peer c 0) (half h a) j))
    (a : Fin 512) (b : Fin 1024) :
    k0_pay17 v (ix3 (0 : Fin 1) a b) = r16M.view.read (Elt F) (own16 m c) (tri 0 (by decide : 0 < 4) (half h a) b) := by
  have e : k0_pay17 v (ix3 (0 : Fin 1) a b) = truncf .bf16 (shapeCast S512x1024 v shapeCasts_S1x512x1024_S512x1024) bitsLt_bf16_f32 (ix2 a b) :=
    shapeCast_ab_1ab_apply (truncf .bf16 (shapeCast S512x1024 v shapeCasts_S1x512x1024_S512x1024) bitsLt_bf16_f32) shapeCasts_S512x1024_S1x512x1024 0 a b
  rw [e]
  exact congrArg (fun z : F .f32 => FloatOps.truncf .bf16 bitsLt_bf16_f32 z) (hv a b)

/-- What lands in the narrow slot `i` of the device `i + 1` places on. -/
theorem landed8 (c : Dev nD) (i : ℕ) (hi : i < 4) (fs : s8M.view.ty.Contents (Elt F)) (fd : r8M.view.ty.Contents (Elt F))
    (hfs : ∀ x, (slot4 s8M i hi).view.read (Elt F) fs x = (slot4 s8M i hi).view.read (Elt F) (send8 m c) x) :
    pts (slot4 r8M i hi) (peer c (i + 1)) ((slot4 r8M i hi).view.write (Elt F) fd ((slot4 s8M i hi).view.read (Elt F) fs) Finset.univ)
      = pts (slot4 r8M i hi) (peer c (i + 1)) (recv8 m (peer c (i + 1))) := by
  refine pts_congr _ _ _ _ fun x => ?_
  rw [View.read_write_univ, hfs]
  obtain ⟨a, b, rfl⟩ : ∃ a b : Fin 1024, x = ix2 a b := ⟨x 0, x 1, eq_ix2 x⟩
  rw [slotN_read s8M i hi, slotN_read r8M i hi]
  have e : peer (peer c (i + 1)) (7 - i) = c := peer_peer c (by omega)
  show (FloatOps.truncf .fp8e4m3 bitsLt_fp8e4m3_f32 (X m c (xIdx (peer c (i + 1)) a b) : F .f32) : F .fp8e4m3) = (FloatOps.truncf .fp8e4m3 bitsLt_fp8e4m3_f32 (X m (peer (peer c (i + 1)) (7 - i)) (xIdx (peer c (i + 1)) a b) : F .f32) : F .fp8e4m3)
  rw [e]

/-- What lands in the wide slot `i + 1` of the device `i + 5` places on. -/
theorem landed16 (c : Dev nD) (i : ℕ) (hi : i < 3) (hj : i + 1 < 4) (fs : s16M.view.ty.Contents (Elt F)) (fd : r16M.view.ty.Contents (Elt F))
    (hfs : ∀ x, (slot3 s16M i hi).view.read (Elt F) fs x = (slot3 s16M i hi).view.read (Elt F) (send16 m c) x) :
    pts (slot4 r16M (i + 1) hj) (peer c (i + 5)) ((slot4 r16M (i + 1) hj).view.write (Elt F) fd ((slot3 s16M i hi).view.read (Elt F) fs) Finset.univ)
      = pts (slot4 r16M (i + 1) hj) (peer c (i + 5)) (recv16 m (peer c (i + 5))) := by
  refine pts_congr _ _ _ _ fun x => ?_
  rw [View.read_write_univ, hfs]
  obtain ⟨a, b, rfl⟩ : ∃ a b : Fin 1024, x = ix2 a b := ⟨x 0, x 1, eq_ix2 x⟩
  rw [slotN_read s16M i hi, slotN_read r16M (i + 1) hj]
  have e : peer (peer c (i + 5)) (4 - (i + 1)) = c := peer_peer c (by omega)
  show (FloatOps.truncf .bf16 bitsLt_bf16_f32 (X m c (xIdx (peer c (i + 5)) a b) : F .f32) : F .bf16) = (FloatOps.truncf .bf16 bitsLt_bf16_f32 (X m (peer (peer c (i + 5)) (4 - (i + 1))) (xIdx (peer c (i + 5)) a b) : F .f32) : F .bf16)
  rw [e]

end Cert.KernelIdeal.A2A

end
-- ==== Proof.KernelIdeal.Out.lean ====
module

public import proofs.«01_k».proof.Proof.KernelIdeal.Vals

/- The output staging buffer, a step at a time: after the step of the block that came `n` places, its four column quarters
   are the sums `acc`, and after the last step their clipped logistic products. -/

@[expose] public section

noncomputable section

namespace Cert.KernelIdeal.A2A

open Cert.KernelIdeal Cert.KernelIdeal.Gen
open Idealize.ShloMosaic
open Idealize.ShloMosaic.TcCoe
open Idealize.ShloMosaic.ValueIdx
open Idealize.SL Idealize.SL.RA Idealize.SL.BI

variable {F : FTy → Type} [FloatOps F]

variable (m : (ℓ : Loc nD τ sig) → Buf (Elt F) ℓ)

/-! ## The blocks and their products -/

/-- Block `c` of the rows of the device `n` places before `c`, before any cast. -/
def src (c : Dev nD) (n : ℕ) : FVec F S1024x1024 .f32 := fun i => X m (peer c (8 - n)) (xIdx c (i 0) (i 1))
/-- The same as the products read it: four of the eight blocks pass through the narrow format. -/
def blk (c : Dev nD) (n : ℕ) : FVec F S1024x1024 .bf16 :=
  if 1 ≤ n ∧ n < 5 then extf .bf16 (truncf .fp8e4m3 (src m c n) bitsLt_fp8e4m3_f32) bitsLt_fp8e4m3_bf16 else truncf .bf16 (src m c n) bitsLt_bf16_f32
/-- The block of the weights that meets it, quarter `q`. -/
def wblk (c : Dev nD) (n : ℕ) (q : Fin 4) : FVec F S1024x1024 .f32 := fun i => Wt m c (wIdx (peer c (8 - n)) q (i 0) (i 1))
/-- The product of a block with a block of weights. -/
def prod (b : FVec F S1024x1024 .bf16) (w : FVec F S1024x1024 .f32) : FVec F S1024x1024 .f32 :=
  matmul dot_S1024x1024_S1024x1024_S1024x1024_1_0_0_1_n_n none b (truncf .bf16 w bitsLt_bf16_f32) (constant S1024x1024 .f32 0x00000000#32)
/-- Quarter `q` of the output after the step of block `n`. -/
def acc (c : Dev nD) (q : Fin 4) : ℕ → FVec F S1024x1024 .f32
  | 0 => prod (blk m c 0) (wblk m c 0 q)
  | n + 1 => addf (acc c q n) (prod (blk m c (n + 1)) (wblk m c (n + 1) q))
/-- The last step's epilogue: `y / (1 + exp (-clip y))`. -/
def epi (y : FVec F S1024x1024 .f32) : FVec F S1024x1024 .f32 :=
  divf y (addf (broadcast S1024x1024 (Scalar.ofBits .f32 0x3F800000#32)) (exp (subf (broadcast S1024x1024 (Scalar.ofBits .f32 0x00000000#32))
    (minimumf (broadcast S1024x1024 (Scalar.ofBits .f32 0x42700000#32)) (maximumf (broadcast S1024x1024 (Scalar.ofBits .f32 0xC2700000#32)) y)))))

/-! ## The loads -/

omit [FloatOps F] in
theorem load_slot {n : ℕ} {e : EltTy} (M : Memref sig .tc .vmem ⟨3, ![n, 1024, 1024]⟩ e) (k : ℕ) (h : k < n) (f : M.view.ty.Contents (Elt F))
    (inb : ∀ a, (![k, 0, 0] : Fin 3 → ℕ) a + S1x1024x1024.size a ≤ (⟨3, ![n, 1024, 1024]⟩ : Shape).size a) (a b : Fin 1024) :
    shapeCast S1024x1024 (View.readAt (Elt F) M.view (Rect.unit (s := ⟨3, ![n, 1024, 1024]⟩) ![k, 0, 0] S1x1024x1024.size inb).toLoadRect f)
      shapeCasts_S1x1024x1024_S1024x1024 (ix2 a b) = M.view.read (Elt F) f (tri k h a b) := by
  rw [← slotN_read M k h f a b]
  exact congrFun (Memref.read_squeeze_slice M (Rect.unit (s := ⟨3, ![n, 1024, 1024]⟩) ![k, 0, 0] S1x1024x1024.size inb) (fun _ => rfl)
    squeezes_S1x1024x1024_S1024x1024 shapeCasts_S1x1024x1024_S1024x1024 f).symm _

/-- The own block, loaded. -/
theorem load_own (c : Dev nD) (inb) :
    k0_pay19 (View.readAt (Elt F) r16M.view (Rect.unit (s := S4x1024x1024) ![0, 0, 0] S1x1024x1024.size inb).toLoadRect (own16 m c)) = blk m c 0 := by
  funext x
  obtain ⟨a, b, rfl⟩ : ∃ a b : Fin 1024, x = ix2 a b := ⟨x 0, x 1, eq_ix2 x⟩
  refine (load_slot r16M 0 (by decide) (own16 m c) inb a b).trans ?_
  unfold blk; rw [if_neg (by omega)]
  have e0 : peer c 0 = c := Fin.ext (by rw [peer_val]; exact Nat.mod_eq_of_lt c.isLt)
  have e8 : peer c 8 = c := Fin.ext (by rw [peer_val, Nat.add_mod_right]; exact Nat.mod_eq_of_lt c.isLt)
  show (FloatOps.truncf .bf16 bitsLt_bf16_f32 (X m c (xIdx (peer c 0) a b) : F .f32) : F .bf16) = FloatOps.truncf .bf16 bitsLt_bf16_f32 (X m (peer c 8) (xIdx c a b) : F .f32)
  rw [e0, e8]

/-- A narrow block, loaded. -/
theorem load8 (c : Dev nD) (k : ℕ) (hk : k < 4) (inb) :
    k0_pay25 (View.readAt (Elt F) r8M.view (Rect.unit (s := S4x1024x1024) ![k, 0, 0] S1x1024x1024.size inb).toLoadRect (recv8 m c)) = blk m c (k + 1) := by
  funext x
  obtain ⟨a, b, rfl⟩ : ∃ a b : Fin 1024, x = ix2 a b := ⟨x 0, x 1, eq_ix2 x⟩
  refine (congrArg (fun z : F .fp8e4m3 => FloatOps.extf .bf16 bitsLt_fp8e4m3_bf16 z) (load_slot r8M k hk (recv8 m c) inb a b)).trans ?_
  unfold blk; rw [if_pos (by omega)]
  show (FloatOps.extf .bf16 bitsLt_fp8e4m3_bf16 (FloatOps.truncf .fp8e4m3 bitsLt_fp8e4m3_f32 (X m (peer c (7 - k)) (xIdx c a b) : F .f32) : F .fp8e4m3) : F .bf16)
    = FloatOps.extf .bf16 bitsLt_fp8e4m3_bf16 (FloatOps.truncf .fp8e4m3 bitsLt_fp8e4m3_f32 (X m (peer c (8 - (k + 1))) (xIdx c a b) : F .f32) : F .fp8e4m3)
  rw [show 8 - (k + 1) = 7 - k by omega]

/-- A wide block, loaded. -/
theorem load16 (c : Dev nD) (k : ℕ) (hk : k < 4) (h0 : 1 ≤ k) (inb) :
    k0_pay19 (View.readAt (Elt F) r16M.view (Rect.unit (s := S4x1024x1024) ![k, 0, 0] S1x1024x1024.size inb).toLoadRect (recv16 m c)) = blk m c (k + 4) := by
  funext x
  obtain ⟨a, b, rfl⟩ : ∃ a b : Fin 1024, x = ix2 a b := ⟨x 0, x 1, eq_ix2 x⟩
  refine (load_slot r16M k hk (recv16 m c) inb a b).trans ?_
  unfold blk; rw [if_neg (by omega)]
  show (FloatOps.truncf .bf16 bitsLt_bf16_f32 (X m (peer c (4 - k)) (xIdx c a b) : F .f32) : F .bf16) = FloatOps.truncf .bf16 bitsLt_bf16_f32 (X m (peer c (8 - (k + 4))) (xIdx c a b) : F .f32)
  rw [show 8 - (k + 4) = 4 - k by omega]

omit [FloatOps F] in
/-- Quarter `q` of the weights' block, as staged and loaded. -/
theorem stagedW (c : Dev nD) (n : ℕ) (q : Fin 4) (k : ℕ) (hk : k < 2) (f : wsM.view.ty.Contents (Elt F))
    (L : List (View.Piece (Elt F) S1024x1024 .f32)) {off : Fin 2 → ℕ} (hoff : off = ![(peer c (8 - n)).val * 1024, q.val * 1024]) (inb) (hs) (inb') :
    shapeCast S1024x1024 (View.readAt (Elt F) wsM.view (Rect.unit (s := S2x1024x1024) ![k, 0, 0] S1x1024x1024.size inb').toLoadRect
      ((slotW k hk).view.writes (Elt F) f ((⟨Rect.whole S1024x1024, ReadAs.same.apply (View.read (Elt F) (wM.slice (Rect.unit (s := S8192x4096)
        off S1024x1024.size inb) hs).view (Wt m c))⟩ : View.Piece (Elt F) S1024x1024 .f32) :: L))) shapeCasts_S1x1024x1024_S1024x1024 = wblk m c n q := by
  rw [stageW k hk f L _ inb' _]
  funext x
  obtain ⟨a, b, rfl⟩ : ∃ a b : Fin 1024, x = ix2 a b := ⟨x 0, x 1, eq_ix2 x⟩
  exact wBlk m c (peer c (8 - n)) q hoff inb hs a b

/-! ## The output's quarters -/

theorem inbO (q : Fin 4) : ∀ a, (![0, q.val * 1024] : Fin 2 → ℕ) a + S1024x1024.size a ≤ S1024x4096.size a := by
  intro a; fin_cases a
  · show 0 + 1024 ≤ 1024; omega
  · show q.val * 1024 + 1024 ≤ 4096; omega

abbrev oCol (q : Fin 4) : Rect S1024x4096 := Rect.unit (s := S1024x4096) ![0, q.val * 1024] S1024x1024.size (inbO q)
/-- What a load of quarter `q` reads. -/
abbrev rd (q : Fin 4) (f : Vec F S1024x4096 .f32) : Vec F S1024x1024 .f32 := View.readAt (Elt F) oM.view (oCol q).toLoadRect f
/-- The buffer after a store of quarter `q`. -/
abbrev wr (q : Fin 4) (b : Vec F S1024x1024 .f32) (f : Vec F S1024x4096 .f32) : Vec F S1024x4096 .f32 := View.write (Elt F) (oM.access (oCol q)) f b Finset.univ
/-- The buffer whose quarters are `p`. -/
def cols (p : Fin 4 → Vec F S1024x1024 .f32) : Vec F S1024x4096 .f32 :=
  fun i => p (⟨(i 1).val / 1024, by have h : (i 1).val < 4096 := (i 1).isLt; omega⟩ : Fin 4) (ix2 (i 0) (⟨(i 1).val % 1024, Nat.mod_lt _ (by decide)⟩ : Fin 1024))

omit [FloatOps F] in
theorem rd_apply (q : Fin 4) (f : Vec F S1024x4096 .f32) (a b : Fin 1024) :
    rd q f (ix2 a b) = f (ix2 a (⟨q.val * 1024 + b.val, by omega⟩ : Fin 4096)) := by
  show f _ = f _
  congr 1
  funext d; apply Fin.ext
  fin_cases d
  · show 0 + 1 * a.val = a.val; omega
  · show q.val * 1024 + 1 * b.val = q.val * 1024 + b.val; omega

omit [FloatOps F] in
theorem rd_cols (p : Fin 4 → Vec F S1024x1024 .f32) (q : Fin 4) : rd q (cols p) = p q := by
  funext x
  obtain ⟨a, b, rfl⟩ : ∃ a b : Fin 1024, x = ix2 a b := ⟨x 0, x 1, eq_ix2 x⟩
  rw [rd_apply]
  have e1 : (⟨(q.val * 1024 + b.val) / 1024, by omega⟩ : Fin 4) = q := Fin.ext (by show (q.val * 1024 + b.val) / 1024 = q.val; omega)
  have e2 : (⟨(q.val * 1024 + b.val) % 1024, Nat.mod_lt _ (by decide)⟩ : Fin 1024) = b := Fin.ext (by show (q.val * 1024 + b.val) % 1024 = b.val; omega)
  show p (⟨(q.val * 1024 + b.val) / 1024, _⟩ : Fin 4) (ix2 a (⟨(q.val * 1024 + b.val) % 1024, _⟩ : Fin 1024)) = _
  rw [e1, e2]

omit [FloatOps F] in
theorem cols_rd (f : Vec F S1024x4096 .f32) : cols (fun q => rd q f) = f := by
  funext x
  obtain ⟨a, b, rfl⟩ : ∃ (a : Fin 1024) (b : Fin 4096), x = ix2 a b := ⟨x 0, x 1, eq_ix2 x⟩
  refine (rd_apply _ f _ _).trans ?_
  congr 2
  exact Fin.ext (by show b.val / 1024 * 1024 + b.val % 1024 = b.val; omega)

omit [FloatOps F] in
theorem oM_read (f : Vec F S1024x4096 .f32) (x : S1024x4096.Idx) : oM.view.read (Elt F) f x = f x := rfl

omit [FloatOps F] in
theorem cols_apply (p : Fin 4 → Vec F S1024x1024 .f32) (i : Fin 1024) (j : Fin 4096) :
    cols p (ix2 i j) = p (⟨j.val / 1024, by omega⟩ : Fin 4) (ix2 i (⟨j.val % 1024, Nat.mod_lt _ (by decide)⟩ : Fin 1024)) := rfl

omit [FloatOps F] in
theorem wr_writes (f : Vec F S1024x4096 .f32) (q : Fin 4) (b : Vec F S1024x1024 .f32) :
    wr q b f = oM.view.writes (Elt F) f [(⟨oCol q, b⟩ : View.Piece (Elt F) S1024x4096 .f32)] := rfl

omit [FloatOps F] in
theorem wr_cols (p : Fin 4 → Vec F S1024x1024 .f32) (q : Fin 4) (b : Vec F S1024x1024 .f32) : wr q b (cols p) = cols (Function.update p q b) := by
  funext x
  obtain ⟨i, j, rfl⟩ : ∃ (i : Fin 1024) (j : Fin 4096), x = ix2 i j := ⟨x 0, x 1, eq_ix2 x⟩
  rw [← oM_read (wr q b (cols p)), wr_writes, cols_apply]
  by_cases hj : q.val * 1024 ≤ j.val ∧ j.val < q.val * 1024 + 1024
  · rw [View.read_writes_cons_unit_of_mem oM.view (cols p) (inbO q) b [] _ (ix2 i (⟨j.val - q.val * 1024, by omega⟩ : Fin 1024)) rfl fun d => by
      fin_cases d
      · show i.val = 0 + i.val; omega
      · show j.val = q.val * 1024 + (j.val - q.val * 1024); omega]
    have e : (⟨j.val / 1024, by omega⟩ : Fin 4) = q := Fin.ext (by show j.val / 1024 = q.val; omega)
    rw [e, Function.update_self]
    congr 2
    exact Fin.ext (by show j.val - q.val * 1024 = j.val % 1024; omega)
  · rw [View.read_writes_cons_unit_of_not_mem oM.view (cols p) (inbO q) b [] _ rfl 1 (by
      rcases Nat.lt_or_ge j.val (q.val * 1024) with h | h
      · exact Or.inl h
      · refine Or.inr ?_; show q.val * 1024 + 1024 ≤ j.val; omega)]
    have e : (⟨j.val / 1024, by omega⟩ : Fin 4) ≠ q := fun h => hj (by have : j.val / 1024 = q.val := congrArg Fin.val h; omega)
    rw [Function.update_of_ne e]
    exact cols_apply p i j

omit [FloatOps F] in
/-- Four stores, each of what its own quarter held. -/
theorem four (p : Fin 4 → Vec F S1024x1024 .f32) (d : Fin 4 → Vec F S1024x1024 .f32 → Vec F S1024x1024 .f32) (f f0 f1 f2 f3 : Vec F S1024x4096 .f32)
    (h : f = cols p) (h0 : f0 = wr 0 (d 0 (rd 0 f)) f) (h1 : f1 = wr 1 (d 1 (rd 1 f0)) f0) (h2 : f2 = wr 2 (d 2 (rd 2 f1)) f1)
    (h3 : f3 = wr 3 (d 3 (rd 3 f2)) f2) : f3 = cols (fun q => d q (p q)) := by
  subst h
  rw [rd_cols, wr_cols] at h0; subst h0
  rw [rd_cols, wr_cols] at h1; subst h1
  rw [rd_cols, wr_cols] at h2; subst h2
  rw [rd_cols, wr_cols] at h3; subst h3
  congr 1
  funext q
  fin_cases q <;> rfl

/-- The first step's output. -/
theorem out_first (c : Dev nD) (b : FVec F S1024x1024 .bf16) (v : Fin 4 → Vec F S1x1024x1024 .f32) (f f0 f1 f2 f3 : Vec F S1024x4096 .f32)
    (hb : b = blk m c 0) (hv : ∀ q, shapeCast S1024x1024 (v q) shapeCasts_S1x1024x1024_S1024x1024 = wblk m c 0 q)
    (h0 : f0 = wr 0 (k0_pay20 b (v 0)) f) (h1 : f1 = wr 1 (k0_pay20 b (v 1)) f0) (h2 : f2 = wr 2 (k0_pay20 b (v 2)) f1)
    (h3 : f3 = wr 3 (k0_pay20 b (v 3)) f2) : f3 = cols (fun q => acc m c q 0) := by
  rw [four (fun q => rd q f) (fun q _ => k0_pay20 b (v q)) f f0 f1 f2 f3 (cols_rd f).symm h0 h1 h2 h3]
  congr 1
  funext q
  subst hb
  show prod _ (shapeCast S1024x1024 (v q) shapeCasts_S1x1024x1024_S1024x1024) = prod _ _
  rw [hv]

/-- A later step's output. -/
theorem out_next (c : Dev nD) (n : ℕ) (b : FVec F S1024x1024 .bf16) (v : Fin 4 → Vec F S1x1024x1024 .f32) (f f0 f1 f2 f3 : Vec F S1024x4096 .f32)
    (hb : b = blk m c (n + 1)) (hv : ∀ q, shapeCast S1024x1024 (v q) shapeCasts_S1x1024x1024_S1024x1024 = wblk m c (n + 1) q)
    (hf : f = cols (fun q => acc m c q n))
    (h0 : f0 = wr 0 (k0_pay26 b (v 0) (rd 0 f)) f) (h1 : f1 = wr 1 (k0_pay26 b (v 1) (rd 1 f0)) f0) (h2 : f2 = wr 2 (k0_pay26 b (v 2) (rd 2 f1)) f1)
    (h3 : f3 = wr 3 (k0_pay26 b (v 3) (rd 3 f2)) f2) : f3 = cols (fun q => acc m c q (n + 1)) := by
  rw [four (fun q => acc m c q n) (fun q r => k0_pay26 b (v q) r) f f0 f1 f2 f3 hf h0 h1 h2 h3]
  congr 1
  funext q
  subst hb
  show addf (shapeCast S1024x1024 (acc m c q n) shapeCasts_S1024x1024_S1024x1024) (prod _ (shapeCast S1024x1024 (v q) shapeCasts_S1x1024x1024_S1024x1024)) = addf _ (prod _ _)
  rw [hv, shapeCast_self]

/-- What the output holds at the end. -/
def outAt (c : Dev nD) : Vec F S1024x4096 .f32 := cols fun q => epi (acc m c q 7)

/-- The last step's output. -/
theorem out_last (c : Dev nD) (b : FVec F S1024x1024 .bf16) (v : Fin 4 → Vec F S1x1024x1024 .f32) (f f0 f1 f2 f3 : Vec F S1024x4096 .f32)
    (hb : b = blk m c 7) (hv : ∀ q, shapeCast S1024x1024 (v q) shapeCasts_S1x1024x1024_S1024x1024 = wblk m c 7 q)
    (hf : f = cols (fun q => acc m c q 6))
    (h0 : f0 = wr 0 (k0_pay59 b (v 0) (rd 0 f)) f) (h1 : f1 = wr 1 (k0_pay59 b (v 1) (rd 1 f0)) f0) (h2 : f2 = wr 2 (k0_pay59 b (v 2) (rd 2 f1)) f1)
    (h3 : f3 = wr 3 (k0_pay59 b (v 3) (rd 3 f2)) f2) : f3 = outAt m c := by
  rw [four (fun q => acc m c q 6) (fun q r => k0_pay59 b (v q) r) f f0 f1 f2 f3 hf h0 h1 h2 h3]
  unfold outAt
  congr 1
  funext q
  subst hb
  show epi (addf (shapeCast S1024x1024 (acc m c q 6) shapeCasts_S1024x1024_S1024x1024) (prod _ (shapeCast S1024x1024 (v q) shapeCasts_S1x1024x1024_S1024x1024))) = epi (addf _ (prod _ _))
  rw [hv, shapeCast_self]

/-! ## The steps over the lists of stores -/

/-- The buffer after the stores `Ls`, the last first. -/
abbrev after (Ls : List (View.Piece (Elt F) S1024x4096 .f32)) (f : Vec F S1024x4096 .f32) : Vec F S1024x4096 .f32 := oM.view.writes (Elt F) f Ls

/-- A store after stores whose outcome does not depend on the start. -/
theorem rd_cov (q : Fin 4) (Ls : List (View.Piece (Elt F) S1024x4096 .f32)) (p : Vec F S1024x4096 .f32) (h : ∀ f, after Ls f = p) :
    oM.view.readCov Ls (oCol q).toLoadRect = rd q p := by
  unfold View.readCov
  exact congrArg (rd q) (h _)

/-- The first step leaves the first products, whatever the buffer held. -/
theorem step_first (c : Dev nD) (b : FVec F S1024x1024 .bf16) (v0 v1 v2 v3 : Vec F S1x1024x1024 .f32) (hb : b = blk m c 0)
    (hv0 : shapeCast S1024x1024 v0 shapeCasts_S1x1024x1024_S1024x1024 = wblk m c 0 0)
    (hv1 : shapeCast S1024x1024 v1 shapeCasts_S1x1024x1024_S1024x1024 = wblk m c 0 1)
    (hv2 : shapeCast S1024x1024 v2 shapeCasts_S1x1024x1024_S1024x1024 = wblk m c 0 2)
    (hv3 : shapeCast S1024x1024 v3 shapeCasts_S1x1024x1024_S1024x1024 = wblk m c 0 3) (p0 p1 p2 p3 : Vec F S1024x1024 .f32)
    (h0 : p0 = k0_pay20 b v0) (h1 : p1 = k0_pay20 b v1) (h2 : p2 = k0_pay20 b v2) (h3 : p3 = k0_pay20 b v3) :
    ∀ f, after [⟨oCol 3, p3⟩, ⟨oCol 2, p2⟩, ⟨oCol 1, p1⟩, ⟨oCol 0, p0⟩] f = cols (fun q => acc m c q 0) := by
  intro f
  subst h0 h1 h2 h3
  refine out_first m c b ![v0, v1, v2, v3] f _ _ _ _ hb (fun q => ?_) rfl rfl rfl rfl
  fin_cases q
  exacts [hv0, hv1, hv2, hv3]

/-- A later step adds its products. -/
theorem step_next (c : Dev nD) (n : ℕ) (b : FVec F S1024x1024 .bf16) (v0 v1 v2 v3 : Vec F S1x1024x1024 .f32) (hb : b = blk m c (n + 1))
    (hv0 : shapeCast S1024x1024 v0 shapeCasts_S1x1024x1024_S1024x1024 = wblk m c (n + 1) 0)
    (hv1 : shapeCast S1024x1024 v1 shapeCasts_S1x1024x1024_S1024x1024 = wblk m c (n + 1) 1)
    (hv2 : shapeCast S1024x1024 v2 shapeCasts_S1x1024x1024_S1024x1024 = wblk m c (n + 1) 2)
    (hv3 : shapeCast S1024x1024 v3 shapeCasts_S1x1024x1024_S1024x1024 = wblk m c (n + 1) 3)
    (Ls : List (View.Piece (Elt F) S1024x4096 .f32)) (hL : ∀ f, after Ls f = cols (fun q => acc m c q n)) (p0 p1 p2 p3 : Vec F S1024x1024 .f32)
    (h0 : p0 = k0_pay26 b v0 (oM.view.readCov Ls (oCol 0).toLoadRect))
    (h1 : p1 = k0_pay26 b v1 (oM.view.readCov (⟨oCol 0, p0⟩ :: Ls) (oCol 1).toLoadRect))
    (h2 : p2 = k0_pay26 b v2 (oM.view.readCov (⟨oCol 1, p1⟩ :: ⟨oCol 0, p0⟩ :: Ls) (oCol 2).toLoadRect))
    (h3 : p3 = k0_pay26 b v3 (oM.view.readCov (⟨oCol 2, p2⟩ :: ⟨oCol 1, p1⟩ :: ⟨oCol 0, p0⟩ :: Ls) (oCol 3).toLoadRect)) :
    ∀ f, after (⟨oCol 3, p3⟩ :: ⟨oCol 2, p2⟩ :: ⟨oCol 1, p1⟩ :: ⟨oCol 0, p0⟩ :: Ls) f = cols (fun q => acc m c q (n + 1)) := by
  intro f
  have g0 : ∀ f', after (⟨oCol 0, p0⟩ :: Ls) f' = wr 0 p0 (after Ls f) := fun f' => congrArg (wr 0 p0) ((hL f').trans (hL f).symm)
  have g1 : ∀ f', after (⟨oCol 1, p1⟩ :: ⟨oCol 0, p0⟩ :: Ls) f' = wr 1 p1 (after (⟨oCol 0, p0⟩ :: Ls) f) := fun f' => congrArg (wr 1 p1) ((g0 f').trans (g0 f).symm)
  have g2 : ∀ f', after (⟨oCol 2, p2⟩ :: ⟨oCol 1, p1⟩ :: ⟨oCol 0, p0⟩ :: Ls) f' = wr 2 p2 (after (⟨oCol 1, p1⟩ :: ⟨oCol 0, p0⟩ :: Ls) f) :=
    fun f' => congrArg (wr 2 p2) ((g1 f').trans (g1 f).symm)
  rw [rd_cov 0 _ (after Ls f) fun f' => (hL f').trans (hL f).symm] at h0
  rw [rd_cov 1 _ _ fun f' => (g0 f').trans (g0 f).symm] at h1
  rw [rd_cov 2 _ _ fun f' => (g1 f').trans (g1 f).symm] at h2
  rw [rd_cov 3 _ _ fun f' => (g2 f').trans (g2 f).symm] at h3
  refine out_next m c n b ![v0, v1, v2, v3] (after Ls f) (after (⟨oCol 0, p0⟩ :: Ls) f) (after (⟨oCol 1, p1⟩ :: ⟨oCol 0, p0⟩ :: Ls) f)
    (after (⟨oCol 2, p2⟩ :: ⟨oCol 1, p1⟩ :: ⟨oCol 0, p0⟩ :: Ls) f) _ hb (fun q => ?_) (hL f)
    (congrArg (fun z => wr 0 z (after Ls f)) h0) (congrArg (fun z => wr 1 z (after (⟨oCol 0, p0⟩ :: Ls) f)) h1)
    (congrArg (fun z => wr 2 z (after (⟨oCol 1, p1⟩ :: ⟨oCol 0, p0⟩ :: Ls) f)) h2)
    (congrArg (fun z => wr 3 z (after (⟨oCol 2, p2⟩ :: ⟨oCol 1, p1⟩ :: ⟨oCol 0, p0⟩ :: Ls) f)) h3)
  fin_cases q
  exacts [hv0, hv1, hv2, hv3]

/-- The last step adds its products and applies the epilogue. -/
theorem step_last (c : Dev nD) (b : FVec F S1024x1024 .bf16) (v0 v1 v2 v3 : Vec F S1x1024x1024 .f32) (hb : b = blk m c 7)
    (hv0 : shapeCast S1024x1024 v0 shapeCasts_S1x1024x1024_S1024x1024 = wblk m c 7 0)
    (hv1 : shapeCast S1024x1024 v1 shapeCasts_S1x1024x1024_S1024x1024 = wblk m c 7 1)
    (hv2 : shapeCast S1024x1024 v2 shapeCasts_S1x1024x1024_S1024x1024 = wblk m c 7 2)
    (hv3 : shapeCast S1024x1024 v3 shapeCasts_S1x1024x1024_S1024x1024 = wblk m c 7 3)
    (Ls : List (View.Piece (Elt F) S1024x4096 .f32)) (hL : ∀ f, after Ls f = cols (fun q => acc m c q 6)) (p0 p1 p2 p3 : Vec F S1024x1024 .f32)
    (h0 : p0 = k0_pay59 b v0 (oM.view.readCov Ls (oCol 0).toLoadRect))
    (h1 : p1 = k0_pay59 b v1 (oM.view.readCov (⟨oCol 0, p0⟩ :: Ls) (oCol 1).toLoadRect))
    (h2 : p2 = k0_pay59 b v2 (oM.view.readCov (⟨oCol 1, p1⟩ :: ⟨oCol 0, p0⟩ :: Ls) (oCol 2).toLoadRect))
    (h3 : p3 = k0_pay59 b v3 (oM.view.readCov (⟨oCol 2, p2⟩ :: ⟨oCol 1, p1⟩ :: ⟨oCol 0, p0⟩ :: Ls) (oCol 3).toLoadRect)) :
    ∀ f, after (⟨oCol 3, p3⟩ :: ⟨oCol 2, p2⟩ :: ⟨oCol 1, p1⟩ :: ⟨oCol 0, p0⟩ :: Ls) f = outAt m c := by
  intro f
  have g0 : ∀ f', after (⟨oCol 0, p0⟩ :: Ls) f' = wr 0 p0 (after Ls f) := fun f' => congrArg (wr 0 p0) ((hL f').trans (hL f).symm)
  have g1 : ∀ f', after (⟨oCol 1, p1⟩ :: ⟨oCol 0, p0⟩ :: Ls) f' = wr 1 p1 (after (⟨oCol 0, p0⟩ :: Ls) f) := fun f' => congrArg (wr 1 p1) ((g0 f').trans (g0 f).symm)
  have g2 : ∀ f', after (⟨oCol 2, p2⟩ :: ⟨oCol 1, p1⟩ :: ⟨oCol 0, p0⟩ :: Ls) f' = wr 2 p2 (after (⟨oCol 1, p1⟩ :: ⟨oCol 0, p0⟩ :: Ls) f) :=
    fun f' => congrArg (wr 2 p2) ((g1 f').trans (g1 f).symm)
  rw [rd_cov 0 _ (after Ls f) fun f' => (hL f').trans (hL f).symm] at h0
  rw [rd_cov 1 _ _ fun f' => (g0 f').trans (g0 f).symm] at h1
  rw [rd_cov 2 _ _ fun f' => (g1 f').trans (g1 f).symm] at h2
  rw [rd_cov 3 _ _ fun f' => (g2 f').trans (g2 f).symm] at h3
  refine out_last m c b ![v0, v1, v2, v3] (after Ls f) (after (⟨oCol 0, p0⟩ :: Ls) f) (after (⟨oCol 1, p1⟩ :: ⟨oCol 0, p0⟩ :: Ls) f)
    (after (⟨oCol 2, p2⟩ :: ⟨oCol 1, p1⟩ :: ⟨oCol 0, p0⟩ :: Ls) f) _ hb (fun q => ?_) (hL f)
    (congrArg (fun z => wr 0 z (after Ls f)) h0) (congrArg (fun z => wr 1 z (after (⟨oCol 0, p0⟩ :: Ls) f)) h1)
    (congrArg (fun z => wr 2 z (after (⟨oCol 1, p1⟩ :: ⟨oCol 0, p0⟩ :: Ls) f)) h2)
    (congrArg (fun z => wr 3 z (after (⟨oCol 2, p2⟩ :: ⟨oCol 1, p1⟩ :: ⟨oCol 0, p0⟩ :: Ls) f)) h3)
  fin_cases q
  exacts [hv0, hv1, hv2, hv3]

end Cert.KernelIdeal.A2A

end
-- ==== Proof.KernelIdeal.Copy.lean ====
module

public import proofs.«01_k».proof.Proof.KernelIdeal.Out

/- One remote copy, for any of the seven: a filled sending slot and the peer's landing slot go in; what is owed drops by the
   copy's credit. -/

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig Unit (Elt F) ℕ UU ℕ

variable (m : (ℓ : Loc nD τ sig) → Buf (Elt F) ℓ)

/-- What device `c` knows for its copy `k`. -/
def sendKnow (κ : GSem nD τ sig → ℕ) (c : Dev nD) (k : ℕ) (hk : k < 8) : sProp 𝕄 :=
  iprop(cellInv ER (sched m) (κ (sendCell c k hk)) (sendCell c k hk) ∗ cellInv ER (sched m) (κ (recvCell (peer c k) k hk)) (recvCell (peer c k) k hk)
    ∗ reached ER (sendCell c k hk) 0)
instance (κ : GSem nD τ sig → ℕ) (c : Dev nD) (k : ℕ) (hk : k < 8) : Persistent (sendKnow m κ c k hk) := by unfold sendKnow; infer_instance
omit [FloatOps F] in
/-- The duties it discharges. -/
def sendTok (c : Dev nD) (k : ℕ) (hk : k < 8) : sProp 𝕄 :=
  iprop(dutyTok ER (sendCell c k hk) 0 0 ∗ dutyTok ER (recvCell (peer c k) k hk) 0 0)
omit [FloatOps F] in
/-- What the barrier hands over for it: the peer's landing slot, the peer's receive cell still in its first round. -/
def land (c : Dev nD) (k : ℕ) (hk : k < 8) : sProp 𝕄 :=
  iprop(landPay (F := F) (peer c k) k ∗ reached ER (recvCell (peer c k) k hk) 0)

/-- The copy of slot `src` to slot `dst` of the device `k` places on. -/
theorem wp_copy (c n : Dev nD) (k j : ℕ) (hk : k < 8) (h0 : 0 < k) (hj : j = k + 1) (hn : n = peer c k) {e : EltTy}
    (src dst : Memref sig .tc .vmem S1024x1024 e) {hsc : dst.view.ref.isScScratch = false}
    {hsrc : src.view.WordExact} {hdst : dst.view.WordExact}
    {hsem : DmaTarget.Typed .vmem (.dma (recvS k hk)) (.remote (Dev.tc n : Thread nD τ) dst (.dma (sendS k hk)) hsc)}
    {α : Type} {Q : α → sProp 𝕄} {K : PUnit → Prog (TpuEff nD τ sig (Elt F) Λ₀ .tc) α} (κ : GSem nD τ sig → ℕ)
    (fs : Buf (Elt F) (src.view.loc (c : Thread nD τ))) (W : Waits sig Unit)
    (hN : dst.view.amount (.dma (recvS k hk)) = Nof k)
    (hs : sendPay (F := F) c k = iprop(∃ f, pts src c f))
    (hl : landPay (F := F) (peer c k) k = iprop(∃ f, pts dst (peer c k) f))
    (hr : ∀ fd, pts dst (peer c k) (dst.view.write (Elt F) fd (src.view.read (Elt F) fs) Finset.univ) = recvPay m (peer c k) k) :
    iprop(sendKnow m κ c k hk ∗ pts src c fs ∗ land c k hk ∗ owes (c : Thread nD τ) (oR c k) W ∗ sendTok c k hk)
      ⊢ iprop(((cred (tallyAt (sendCell c k hk) () (Nof k)) ∗ owes (c : Thread nD τ) (oR c j) W)
            -∗ wp frame (wpE (defs₀ (F := F)) Variants.none (c : Thread nD τ) none) Set.univ (K ⟨⟩) Q)
          -∗ wp frame (wpE (defs₀ (F := F)) Variants.none (c : Thread nD τ) none) Set.univ
              (.op (.enqueueDma src (.remote (Dev.tc n : Thread nD τ) dst (.dma (sendS k hk)) hsc) (.dma (recvS k hk)) hsrc hdst hsem) K) Q) := by
  subst hn; subst hj
  unfold sendKnow land sendTok
  rw [hl]
  iintro ⟨⟨HI1, HI2, R1⟩, Hs, ⟨⟨%fd, Hd⟩, R2⟩, HO, T1, T2⟩
  iapply (Rounds.wp_send_pointsTo Variants.none ER (sched m) (c : Thread nD τ) none (κ₁ := κ (sendCell c k hk)) (κ₂ := κ (recvCell (peer c k) k hk))
    (r₁ := 0) (r₂ := 0) (d₁ := 0) (d₂ := 0) (fs := fs) (fd := fd) (q := fullShare)
    (by rw [duties_send m c k hk h0]; exact Finset.mem_singleton_self _) (by rw [duties_recv m (peer c k) k hk h0]; exact Finset.mem_singleton_self _)
    () () (Nof k) hN (amount_send m c k hk 0) (amount_recv m (peer c k) k hk 0) (oR c (k + 1)) (oR_step c k hk) (W := W)
    (by rw [payload_send, hs]; exact exists_intro (Φ := fun f => pts src c f) fs)
    (by rw [payload_recv]; exact Entails.of_eq (hr fd)))
    $$ [HI1 HI2 Hs Hd HO T1 R1 T2 R2]
  isplitl [HI1]; · iexact HI1
  isplitl [HI2]; · iexact HI2
  isplitl [Hs]; · iexact Hs
  isplitl [Hd]; · iexact Hd
  isplitl [HO]; · iexact HO
  isplitl [T1]; · iexact T1
  isplitl [R1]; · iexact R1
  isplitl [T2]; · iexact T2
  iexact R2

/-- `wp_copy` at a narrow slot that reads as `send8`. -/
theorem wp_copy8 (c n : Dev nD) (i k j : ℕ) (hi : i < 4) (hk : k < 8) (hik : k = i + 1) (hj : j = k + 1) (hn : n = peer c k)
    {hsc : (slot4 r8M i hi).view.ref.isScScratch = false} {hsrc : (slot4 s8M i hi).view.WordExact} {hdst : (slot4 r8M i hi).view.WordExact}
    {hsem : DmaTarget.Typed .vmem (.dma (recvS k hk)) (.remote (Dev.tc n : Thread nD τ) (slot4 r8M i hi) (.dma (sendS k hk)) hsc)}
    {α : Type} {Q : α → sProp 𝕄} {K : PUnit → Prog (TpuEff nD τ sig (Elt F) Λ₀ .tc) α} (κ : GSem nD τ sig → ℕ)
    (fs : s8M.view.ty.Contents (Elt F)) (W : Waits sig Unit)
    (hfs : ∀ x, (slot4 s8M i hi).view.read (Elt F) fs x = (slot4 s8M i hi).view.read (Elt F) (send8 m c) x)
    (hs : sendPay (F := F) c k = iprop(∃ f, pts (slot4 s8M i hi) c f))
    (hl : landPay (F := F) (peer c k) k = iprop(∃ f, pts (slot4 r8M i hi) (peer c k) f))
    (hr : recvPay m (peer c k) k = pts (slot4 r8M i hi) (peer c k) (recv8 m (peer c k))) :
    iprop(sendKnow m κ c k hk ∗ pts (slot4 s8M i hi) c fs ∗ land c k hk ∗ owes (c : Thread nD τ) (oR c k) W ∗ sendTok c k hk)
      ⊢ iprop(((cred (tallyAt (sendCell c k hk) () (Nof k)) ∗ owes (c : Thread nD τ) (oR c j) W)
            -∗ wp frame (wpE (defs₀ (F := F)) Variants.none (c : Thread nD τ) none) Set.univ (K ⟨⟩) Q)
          -∗ wp frame (wpE (defs₀ (F := F)) Variants.none (c : Thread nD τ) none) Set.univ
              (.op (.enqueueDma (slot4 s8M i hi) (.remote (Dev.tc n : Thread nD τ) (slot4 r8M i hi) (.dma (sendS k hk)) hsc) (.dma (recvS k hk)) hsrc hdst hsem) K) Q) :=
  wp_copy m c n k j hk (by omega) hj hn (slot4 s8M i hi) (slot4 r8M i hi) κ fs W (by subst hik; unfold Nof; rw [if_pos (by omega)]) hs hl
    (fun fd => by subst hik; exact (landed8 m c i hi fs fd hfs).trans hr.symm)

/-- `wp_copy` at a wide slot that reads as `send16`. -/
theorem wp_copy16 (c n : Dev nD) (i i' k j : ℕ) (hi : i < 3) (hi' : i' < 4) (hk : k < 8) (hii : i' = i + 1) (hik : k = i + 5) (hj : j = k + 1) (hn : n = peer c k)
    {hsc : (slot4 r16M i' hi').view.ref.isScScratch = false} {hsrc : (slot3 s16M i hi).view.WordExact} {hdst : (slot4 r16M i' hi').view.WordExact}
    {hsem : DmaTarget.Typed .vmem (.dma (recvS k hk)) (.remote (Dev.tc n : Thread nD τ) (slot4 r16M i' hi') (.dma (sendS k hk)) hsc)}
    {α : Type} {Q : α → sProp 𝕄} {K : PUnit → Prog (TpuEff nD τ sig (Elt F) Λ₀ .tc) α} (κ : GSem nD τ sig → ℕ)
    (fs : s16M.view.ty.Contents (Elt F)) (W : Waits sig Unit)
    (hfs : ∀ x, (slot3 s16M i hi).view.read (Elt F) fs x = (slot3 s16M i hi).view.read (Elt F) (send16 m c) x)
    (hs : sendPay (F := F) c k = iprop(∃ f, pts (slot3 s16M i hi) c f))
    (hl : landPay (F := F) (peer c k) k = iprop(∃ f, pts (slot4 r16M i' hi') (peer c k) f))
    (hr : recvPay m (peer c k) k = pts (slot4 r16M i' hi') (peer c k) (recv16 m (peer c k))) :
    iprop(sendKnow m κ c k hk ∗ pts (slot3 s16M i hi) c fs ∗ land c k hk ∗ owes (c : Thread nD τ) (oR c k) W ∗ sendTok c k hk)
      ⊢ iprop(((cred (tallyAt (sendCell c k hk) () (Nof k)) ∗ owes (c : Thread nD τ) (oR c j) W)
            -∗ wp frame (wpE (defs₀ (F := F)) Variants.none (c : Thread nD τ) none) Set.univ (K ⟨⟩) Q)
          -∗ wp frame (wpE (defs₀ (F := F)) Variants.none (c : Thread nD τ) none) Set.univ
              (.op (.enqueueDma (slot3 s16M i hi) (.remote (Dev.tc n : Thread nD τ) (slot4 r16M i' hi') (.dma (sendS k hk)) hsc) (.dma (recvS k hk)) hsrc hdst hsem) K) Q) :=
  wp_copy m c n k j hk (by omega) hj hn (slot3 s16M i hi) (slot4 r16M i' hi') κ fs W (by subst hik; unfold Nof; rw [if_neg (by omega)]) hs hl
    (fun fd => by subst hii; subst hik; exact (landed16 m c i hi hi' fs fd hfs).trans hr.symm)

/-- A wait for the one round of a semaphore nobody else waits on, once nothing is owed. -/
theorem wp_take (κ₁ : ℕ) (c : Dev nD) (s : DmaSem sig) (k : ℕ) (P : sProp 𝕄) {sp sp' : Space} {sh sh' : Shape} {e e' : EltTy} {κ' : Kind}
    {src : Memref sig .tc sp' sh' e'} {dst : Memref sig κ' sp sh e} {hsrc : src.view.WordExact} {hdst : dst.view.WordExact}
    {α : Type} {Q : α → sProp 𝕄} {K : PUnit → Prog (TpuEff nD τ sig (Elt F) Λ₀ .tc) α} (W : Waits sig Unit)
    (hN : dst.view.dmaCredit = Nof k) (hexp : (sched m).expect ((c : Thread nD τ), .dma s) 0 = Nof k)
    (hpay : bigSep ((sched m).duties ((c : Thread nD τ), .dma s) 0 \ ∅) (fun d => (sched m).payload ((c : Thread nD τ), .dma s) 0 d) = P) :
    iprop(cellInv ER (sched m) κ₁ ((c : Thread nD τ), .dma s) ∗ cred (tallyAt ((c : Thread nD τ), .dma s) () (Nof k)) ∗ owes (c : Thread nD τ) 0 W
        ∗ atPos ER ((c : Thread nD τ), .dma s) 0 ∅ 0)
      ⊢ iprop(((owes (c : Thread nD τ) 0 (insert (.dma s, ()) W) ∗ atPos ER ((c : Thread nD τ), .dma s) 1 ∅ 0 ∗ P)
            -∗ wp frame (wpE (defs₀ (F := F)) Variants.none (c : Thread nD τ) none) Set.univ (K ⟨⟩) Q)
          -∗ wp frame (wpE (defs₀ (F := F)) Variants.none (c : Thread nD τ) none) Set.univ (.op (.waitDma2 s src dst hsrc hdst) K) Q) := by
  iintro ⟨HI, HC, HO, HA⟩ Hk
  iapply (Rounds.wp_wait_rest_token Variants.none ER (sched m) (c : Thread nD τ) none (κ := κ₁)
      (wpE_waitDma2_eq Variants.none (c : Thread nD τ) none Set.univ) (Set.mem_univ _) () (O := 0) (W := W) (R := 0) (m := 0) (T := ∅)
      (by rw [Nat.zero_add, hexp, hN])) $$ [HI HC HO HA]
  · isplitl [HI]; · iexact HI
    isplitl [HC]; · rw [hN]; iexact HC
    isplitl [HO]; · iexact HO
    isplitr; · rw [MayWait_zero]; iempintro
    iexact HA
  iintro ⟨HO, HA, -, Hpay⟩
  ihave Hp := (Entails.of_eq hpay) $$ Hpay
  iapply Hk
  isplitl [HO]; · iexact HO
  isplitl [HA]; · iexact HA
  iexact Hp

/-- The wait for the copy into slot `dst`. -/
theorem wp_recv (κ : GSem nD τ sig → ℕ) (c : Dev nD) (k : ℕ) (hk : k < 8) (h0 : 0 < k) (P : sProp 𝕄) {sp sp' : Space} {sh sh' : Shape} {e e' : EltTy} {κ' : Kind}
    {src : Memref sig .tc sp' sh' e'} {dst : Memref sig κ' sp sh e} {hsrc : src.view.WordExact} {hdst : dst.view.WordExact}
    {α : Type} {Q : α → sProp 𝕄} {K : PUnit → Prog (TpuEff nD τ sig (Elt F) Λ₀ .tc) α} (W : Waits sig Unit)
    (hN : dst.view.dmaCredit = Nof k) (hr : recvPay m c k = P) :
    iprop(cellInv ER (sched m) (κ (recvCell c k hk)) (recvCell c k hk) ∗ cred (tallyAt (recvCell c k hk) () (Nof k)) ∗ owes (c : Thread nD τ) 0 W
        ∗ atPos ER (recvCell c k hk) 0 ∅ 0)
      ⊢ iprop(((owes (c : Thread nD τ) 0 (insert (.dma (recvS k hk), ()) W) ∗ atPos ER (recvCell c k hk) 1 ∅ 0 ∗ P)
            -∗ wp frame (wpE (defs₀ (F := F)) Variants.none (c : Thread nD τ) none) Set.univ (K ⟨⟩) Q)
          -∗ wp frame (wpE (defs₀ (F := F)) Variants.none (c : Thread nD τ) none) Set.univ (.op (.waitDma2 (recvS k hk) src dst hsrc hdst) K) Q) :=
  wp_take m (κ (recvCell c k hk)) c (recvS k hk) k P W hN (expect_recv m c k hk h0)
    (by rw [Finset.sdiff_empty, duties_recv m c k hk h0, bigSep_singleton, payload_recv, hr])

/-- The wait for the copy out of a sending slot. -/
theorem wp_sent (κ : GSem nD τ sig → ℕ) (c : Dev nD) (k : ℕ) (hk : k < 8) (h0 : 0 < k) {sp sp' : Space} {sh sh' : Shape} {e e' : EltTy} {κ' : Kind}
    {src : Memref sig .tc sp' sh' e'} {dst : Memref sig κ' sp sh e} {hsrc : src.view.WordExact} {hdst : dst.view.WordExact}
    {α : Type} {Q : α → sProp 𝕄} {K : PUnit → Prog (TpuEff nD τ sig (Elt F) Λ₀ .tc) α} (W : Waits sig Unit)
    (hN : dst.view.dmaCredit = Nof k) :
    iprop(cellInv ER (sched m) (κ (sendCell c k hk)) (sendCell c k hk) ∗ cred (tallyAt (sendCell c k hk) () (Nof k)) ∗ owes (c : Thread nD τ) 0 W
        ∗ atPos ER (sendCell c k hk) 0 ∅ 0)
      ⊢ iprop(((owes (c : Thread nD τ) 0 (insert (.dma (sendS k hk), ()) W) ∗ atPos ER (sendCell c k hk) 1 ∅ 0 ∗ sendPay c k)
            -∗ wp frame (wpE (defs₀ (F := F)) Variants.none (c : Thread nD τ) none) Set.univ (K ⟨⟩) Q)
          -∗ wp frame (wpE (defs₀ (F := F)) Variants.none (c : Thread nD τ) none) Set.univ (.op (.waitDma2 (sendS k hk) src dst hsrc hdst) K) Q) :=
  wp_take m (κ (sendCell c k hk)) c (sendS k hk) k (sendPay c k) W hN (expect_send m c k hk h0)
    (by rw [Finset.sdiff_empty, duties_send m c k hk h0, bigSep_singleton, payload_send])

/-- The wait for a narrow copy. -/
theorem wp_recv8 (κ : GSem nD τ sig → ℕ) (c : Dev nD) (i k : ℕ) (hi : i < 4) (hik : k = i + 1) (hk : k < 8)
    {hsrc : (slot4 r8M i hi).view.WordExact} {hdst : (slot4 r8M i hi).view.WordExact}
    {α : Type} {Q : α → sProp 𝕄} {K : PUnit → Prog (TpuEff nD τ sig (Elt F) Λ₀ .tc) α} (W : Waits sig Unit)
    (hr : recvPay m c k = pts (slot4 r8M i hi) c (recv8 m c)) :
    iprop(cellInv ER (sched m) (κ (recvCell c k hk)) (recvCell c k hk) ∗ cred (tallyAt (recvCell c k hk) () (Nof k)) ∗ owes (c : Thread nD τ) 0 W
        ∗ atPos ER (recvCell c k hk) 0 ∅ 0)
      ⊢ iprop(((owes (c : Thread nD τ) 0 (insert (.dma (recvS k hk), ()) W) ∗ atPos ER (recvCell c k hk) 1 ∅ 0 ∗ pts (slot4 r8M i hi) c (recv8 m c))
            -∗ wp frame (wpE (defs₀ (F := F)) Variants.none (c : Thread nD τ) none) Set.univ (K ⟨⟩) Q)
          -∗ wp frame (wpE (defs₀ (F := F)) Variants.none (c : Thread nD τ) none) Set.univ (.op (.waitDma2 (recvS k hk) (slot4 r8M i hi) (slot4 r8M i hi) hsrc hdst) K) Q) :=
  wp_recv m κ c k hk (by omega) _ W (by subst hik; unfold Nof; rw [if_pos (by omega)]) hr

/-- The wait for a wide copy. -/
theorem wp_recv16 (κ : GSem nD τ sig → ℕ) (c : Dev nD) (i k : ℕ) (hi : i < 4) (h0 : 1 ≤ i) (hik : k = i + 4) (hk : k < 8)
    {hsrc : (slot4 r16M i hi).view.WordExact} {hdst : (slot4 r16M i hi).view.WordExact}
    {α : Type} {Q : α → sProp 𝕄} {K : PUnit → Prog (TpuEff nD τ sig (Elt F) Λ₀ .tc) α} (W : Waits sig Unit)
    (hr : recvPay m c k = pts (slot4 r16M i hi) c (recv16 m c)) :
    iprop(cellInv ER (sched m) (κ (recvCell c k hk)) (recvCell c k hk) ∗ cred (tallyAt (recvCell c k hk) () (Nof k)) ∗ owes (c : Thread nD τ) 0 W
        ∗ atPos ER (recvCell c k hk) 0 ∅ 0)
      ⊢ iprop(((owes (c : Thread nD τ) 0 (insert (.dma (recvS k hk), ()) W) ∗ atPos ER (recvCell c k hk) 1 ∅ 0 ∗ pts (slot4 r16M i hi) c (recv16 m c))
            -∗ wp frame (wpE (defs₀ (F := F)) Variants.none (c : Thread nD τ) none) Set.univ (K ⟨⟩) Q)
          -∗ wp frame (wpE (defs₀ (F := F)) Variants.none (c : Thread nD τ) none) Set.univ (.op (.waitDma2 (recvS k hk) (slot4 r16M i hi) (slot4 r16M i hi) hsrc hdst) K) Q) :=
  wp_recv m κ c k hk (by omega) _ W (by subst hik; unfold Nof; rw [if_neg (by omega)]) hr

/-- The wait for a narrow sending slot. -/
theorem wp_sent8 (κ : GSem nD τ sig → ℕ) (c : Dev nD) (i k : ℕ) (hi : i < 4) (hik : k = i + 1) (hk : k < 8)
    {hsrc : (slot4 r8M i hi).view.WordExact} {hdst : (slot4 s8M i hi).view.WordExact}
    {α : Type} {Q : α → sProp 𝕄} {K : PUnit → Prog (TpuEff nD τ sig (Elt F) Λ₀ .tc) α} (W : Waits sig Unit)
    (hs : sendPay (F := F) c k = iprop(∃ f, pts (slot4 s8M i hi) c f)) :
    iprop(cellInv ER (sched m) (κ (sendCell c k hk)) (sendCell c k hk) ∗ cred (tallyAt (sendCell c k hk) () (Nof k)) ∗ owes (c : Thread nD τ) 0 W
        ∗ atPos ER (sendCell c k hk) 0 ∅ 0)
      ⊢ iprop(((owes (c : Thread nD τ) 0 (insert (.dma (sendS k hk), ()) W) ∗ atPos ER (sendCell c k hk) 1 ∅ 0 ∗ ∃ f, pts (slot4 s8M i hi) c f)
            -∗ wp frame (wpE (defs₀ (F := F)) Variants.none (c : Thread nD τ) none) Set.univ (K ⟨⟩) Q)
          -∗ wp frame (wpE (defs₀ (F := F)) Variants.none (c : Thread nD τ) none) Set.univ (.op (.waitDma2 (sendS k hk) (slot4 r8M i hi) (slot4 s8M i hi) hsrc hdst) K) Q) :=
  by rw [← hs]; exact wp_sent m κ c k hk (by omega) W (by subst hik; unfold Nof; rw [if_pos (by omega)])

/-- The wait for a wide sending slot. -/
theorem wp_sent16 (κ : GSem nD τ sig → ℕ) (c : Dev nD) (i i' k : ℕ) (hi : i < 3) (hi' : i' < 4) (hik : k = i + 5) (hk : k < 8)
    {hsrc : (slot4 r16M i' hi').view.WordExact} {hdst : (slot3 s16M i hi).view.WordExact}
    {α : Type} {Q : α → sProp 𝕄} {K : PUnit → Prog (TpuEff nD τ sig (Elt F) Λ₀ .tc) α} (W : Waits sig Unit)
    (hs : sendPay (F := F) c k = iprop(∃ f, pts (slot3 s16M i hi) c f)) :
    iprop(cellInv ER (sched m) (κ (sendCell c k hk)) (sendCell c k hk) ∗ cred (tallyAt (sendCell c k hk) () (Nof k)) ∗ owes (c : Thread nD τ) 0 W
        ∗ atPos ER (sendCell c k hk) 0 ∅ 0)
      ⊢ iprop(((owes (c : Thread nD τ) 0 (insert (.dma (sendS k hk), ()) W) ∗ atPos ER (sendCell c k hk) 1 ∅ 0 ∗ ∃ f, pts (slot3 s16M i hi) c f)
            -∗ wp frame (wpE (defs₀ (F := F)) Variants.none (c : Thread nD τ) none) Set.univ (K ⟨⟩) Q)
          -∗ wp frame (wpE (defs₀ (F := F)) Variants.none (c : Thread nD τ) none) Set.univ (.op (.waitDma2 (sendS k hk) (slot4 r16M i' hi') (slot3 s16M i hi) hsrc hdst) K) Q) :=
  by rw [← hs]; exact wp_sent m κ c k hk (by omega) W (by subst hik; unfold Nof; rw [if_neg (by omega)])

end Cert.KernelIdeal.A2A

end
-- ==== Proof.KernelIdeal.Held.lean ====
module

public import proofs.«01_k».proof.Proof.KernelIdeal.Copy
public import proofs.«01_k».proof.Proof.KernelIdeal.Out

/- What a device's body starts from and what it leaves. -/

@[expose] public section

noncomputable section

namespace Cert.KernelIdeal.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig Unit (Elt F) ℕ UU ℕ

variable (m : (ℓ : Loc nD τ sig) → Buf (Elt F) ℓ)

/-- A cell whose one round is over closes at zero. -/
theorem close (κ : GSem nD τ sig → ℕ) (g : GSem nD τ sig) :
    iprop(cellInv ER (sched m) (κ g) g ∗ atPos ER g 1 ∅ 0) ⊢ (|={Set.univ}=> semVal g 0 : sProp 𝕄) :=
  Rounds.cell_close ER (sched m) (Set.mem_univ (κ g)) (fun h => h) (R := 0 + 1) (duties_later m g)

/-- What device `c` knows of its copy `k`, of the one it receives, and of the barrier it signals. -/
def know (κ : GSem nD τ sig → ℕ) (c : Dev nD) (k : ℕ) (h : k < 8) : sProp 𝕄 :=
  iprop(sendKnow m κ c k h ∗ cellInv ER (sched m) (κ (sendCell c k h)) (sendCell c k h) ∗ cellInv ER (sched m) (κ (recvCell c k h)) (recvCell c k h)
    ∗ cellInv ER (sched m) (κ (barCell (peer c k))) (barCell (peer c k)) ∗ reached ER (barCell (peer c k)) 0 ∗ reached ER (recvCell c k h) 0)
instance (κ : GSem nD τ sig → ℕ) (c : Dev nD) (k : ℕ) (h : k < 8) : Persistent (know m κ c k h) := by unfold know; infer_instance
/-- What it holds for them: tokens, positions, credit. -/
def have_ (c : Dev nD) (k j : ℕ) (h : k < 8) : sProp 𝕄 :=
  iprop(sendTok c k h ∗ dutyTok ER (barCell (peer c k)) 0 j
    ∗ atPos ER (sendCell c k h) 0 ∅ 0 ∗ atPos ER (recvCell c k h) 0 ∅ 0 ∗ cred (tallyAt (recvCell c k h) () (Nof k)))

/-- The arrays and the scratch a device's body starts from, besides its landing slots. -/
def bufs (c : Dev nD) : sProp 𝕄 :=
  iprop(((xM.view.loc (c : Thread nD τ)) ↦{Transfers.shareTokN fullShare 0} X m c) ∗ ((xM.view.loc (c : Thread nD τ)) ↦{Transfers.shareTokN fullShare 1} X m c)
    ∗ ((wM.view.loc (c : Thread nD τ)) ↦{Transfers.shareTokN fullShare 0} Wt m c) ∗ ((wM.view.loc (c : Thread nD τ)) ↦{Transfers.shareTokN fullShare 1} Wt m c)
    ∗ (∃ f, pts (slot4 r16M 0 (by decide)) c f) ∗ (∃ f, pts (slot4 s8M 0 (by decide)) c f) ∗ (∃ f, pts (slot4 s8M 1 (by decide)) c f) ∗ (∃ f, pts (slot4 s8M 2 (by decide)) c f) ∗ (∃ f, pts (slot4 s8M 3 (by decide)) c f) ∗ (∃ f, pts (slot3 s16M 0 (by decide)) c f) ∗ (∃ f, pts (slot3 s16M 1 (by decide)) c f) ∗ (∃ f, pts (slot3 s16M 2 (by decide)) c f)
    ∗ (∃ f, pts (slotX 0 (by decide)) c f) ∗ (∃ f, pts (slotX 1 (by decide)) c f) ∗ (∃ f, pts (slotW 0 (by decide)) c f) ∗ (∃ f, pts (slotW 1 (by decide)) c f)
    ∗ semVal ((c : Thread nD τ), .dma (xS 0 (by decide))) 0 ∗ semVal ((c : Thread nD τ), .dma (xS 1 (by decide))) 0
    ∗ semVal ((c : Thread nD τ), .dma (wS 0 (by decide))) 0 ∗ semVal ((c : Thread nD τ), .dma (wS 1 (by decide))) 0)

/-- Every slot of a four-slot buffer, of the three-slot buffer, of the two staging buffers; contents arbitrary. -/
def all4 {e : EltTy} (M : Memref sig .tc .vmem S4x1024x1024 e) (c : Dev nD) : sProp 𝕄 :=
  iprop((∃ f, pts (slot4 M 0 (by decide)) c f) ∗ (∃ f, pts (slot4 M 1 (by decide)) c f) ∗ (∃ f, pts (slot4 M 2 (by decide)) c f) ∗ (∃ f, pts (slot4 M 3 (by decide)) c f))
def all3 {e : EltTy} (M : Memref sig .tc .vmem S3x1024x1024 e) (c : Dev nD) : sProp 𝕄 :=
  iprop((∃ f, pts (slot3 M 0 (by decide)) c f) ∗ (∃ f, pts (slot3 M 1 (by decide)) c f) ∗ (∃ f, pts (slot3 M 2 (by decide)) c f))
def allX (c : Dev nD) : sProp 𝕄 := iprop((∃ f, pts (slotX 0 (by decide)) c f) ∗ (∃ f, pts (slotX 1 (by decide)) c f))
def allW (c : Dev nD) : sProp 𝕄 := iprop((∃ f, pts (slotW 0 (by decide)) c f) ∗ (∃ f, pts (slotW 1 (by decide)) c f))

/-- What the body leaves: the arrays, every slot, every counter at zero, no debt, and the output. -/
def done (c : Dev nD) : sProp 𝕄 :=
  iprop((((xM.view.loc (c : Thread nD τ)) ↦{Transfers.shareTokN fullShare 0} X m c) ∗ ((xM.view.loc (c : Thread nD τ)) ↦{Transfers.shareTokN fullShare 1} X m c)
      ∗ ((wM.view.loc (c : Thread nD τ)) ↦{Transfers.shareTokN fullShare 0} Wt m c) ∗ ((wM.view.loc (c : Thread nD τ)) ↦{Transfers.shareTokN fullShare 1} Wt m c))
    ∗ (all4 r8M c ∗ all4 r16M c ∗ all4 s8M c ∗ all3 s16M c ∗ allX c ∗ allW c)
    ∗ (semVal ((c : Thread nD τ), .dma (xS 0 (by decide))) 0 ∗ semVal ((c : Thread nD τ), .dma (xS 1 (by decide))) 0
      ∗ semVal ((c : Thread nD τ), .dma (wS 0 (by decide))) 0 ∗ semVal ((c : Thread nD τ), .dma (wS 1 (by decide))) 0)
    ∗ (semVal (barCell c) 0 ∗ semVal (sendCell c 1 (by decide)) 0 ∗ semVal (sendCell c 2 (by decide)) 0 ∗ semVal (sendCell c 3 (by decide)) 0 ∗ semVal (sendCell c 4 (by decide)) 0 ∗ semVal (sendCell c 5 (by decide)) 0 ∗ semVal (sendCell c 6 (by decide)) 0 ∗ semVal (sendCell c 7 (by decide)) 0
       ∗ semVal (recvCell c 1 (by decide)) 0 ∗ semVal (recvCell c 2 (by decide)) 0 ∗ semVal (recvCell c 3 (by decide)) 0 ∗ semVal (recvCell c 4 (by decide)) 0 ∗ semVal (recvCell c 5 (by decide)) 0 ∗ semVal (recvCell c 6 (by decide)) 0 ∗ semVal (recvCell c 7 (by decide)) 0)
    ∗ (∃ W, owes (c : Thread nD τ) 0 W) ∗ (oM.view.loc (c : Thread nD τ) ↦{fullShare} outAt m c))

end Cert.KernelIdeal.A2A

end
-- ==== Proof.KernelIdeal.Deal.lean ====
module

public import proofs.«01_k».proof.Proof.KernelIdeal.Held

/- What the launch deals to the devices: the invariants of every cell of the exchange, each device's positions, the tokens of
   the duties it discharges (its own sends', its peers' barriers' and receives'), and its credit. -/

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and the semaphores, indexed -/

/-- A device's cells: its barrier, its seven send cells, its seven receive cells. -/
abbrev CI : Type := Unit ⊕ (Fin 7 ⊕ Fin 7)
theorem up (i : Fin 7) : i.val + 1 < 8 := by omega
def csem : CI → SemLoc sig
  | .inl _ => .reg barS
  | .inr (.inl i) => .dma (sendS (i.val + 1) (up i))
  | .inr (.inr i) => .dma (recvS (i.val + 1) (up i))
theorem csem_inj : Function.Injective csem := by
  have hs : ∀ i : Fin 7, (sendS (i.val + 1) (up i)).val = 1 + (i.val + 1) := fun i => sendS_val ⟨i.val + 1, up i⟩
  have hr : ∀ i : Fin 7, (recvS (i.val + 1) (up i)).val = 9 + (i.val + 1) := fun i => recvS_val ⟨i.val + 1, up i⟩
  have key : ∀ {q q' : DmaSem sig}, (SemLoc.dma q : SemLoc sig) = .dma q' → q.val = q'.val := fun h => by injection h with h; exact congrArg Fin.val h
  rintro (⟨⟩ | i | i) (⟨⟩ | j | j) h
  · rfl
  · cases h
  · cases h
  · cases h
  · have := key h; rw [hs, hs] at this; exact congrArg (fun x => Sum.inr (Sum.inl x)) (Fin.ext (by omega))
  · have := key h; rw [hs, hr] at this; omega
  · cases h
  · have := key h; rw [hr, hs] at this; omega
  · have := key h; rw [hr, hr] at this; exact congrArg (fun x => Sum.inr (Sum.inr x)) (Fin.ext (by omega))
abbrev kcell (x : Dev nD × CI) : GSem nD τ sig := ((x.1 : Thread nD τ), csem x.2)
theorem kcell_inj : Function.Injective kcell := by
  rintro ⟨c, j⟩ ⟨c', j'⟩ h
  have h1 : c = c' := congrArg (fun g : GSem nD τ sig => g.1.1) h
  have h2 : j = j' := csem_inj (congrArg Prod.snd h)
  subst h1; subst h2; rfl
def exCells : Finset (GSem nD τ sig) := Finset.univ.map ⟨kcell, kcell_inj⟩

/-- The kernel's own semaphores: the exchange's, then the two it never pays and the four of the staging buffers. -/
abbrev osem : (Fin 7 ⊕ Fin 7) ⊕ Fin 6 → SemLoc sig
  | .inl (.inl i) => .dma (sendS (i.val + 1) (up i))
  | .inl (.inr i) => .dma (recvS (i.val + 1) (up i))
  | .inr 0 => .dma (sendS 0 (by decide)) | .inr 1 => .dma (recvS 0 (by decide))
  | .inr 2 => .dma (xS 0 (by decide)) | .inr 3 => .dma (xS 1 (by decide))
  | .inr 4 => .dma (wS 0 (by decide)) | .inr 5 => .dma (wS 1 (by decide))

theorem ownSemFacts : Pipeline.OwnSemFacts cfg0.spec osem := by decide

omit [FloatOps F] in
theorem over_unit (Φ : Unit → sProp 𝕄) : bigSep Finset.univ Φ = Φ () := by
  rw [show (Finset.univ : Finset Unit) = {()} from rfl, bigSep_singleton]
omit [FloatOps F] in
theorem over_cells (Φ : CI → sProp 𝕄) :
    bigSep Finset.univ Φ = iprop(Φ (.inl ()) ∗ (bigSep Finset.univ fun i => Φ (.inr (.inl i))) ∗ bigSep Finset.univ fun i => Φ (.inr (.inr i))) := by
  rw [bigSep_univ_sum, bigSep_univ_sum (fun b => Φ (.inr b)), over_unit]; rfl
omit [FloatOps F] in
theorem over7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem over3 (Φ : Fin 3 → sProp 𝕄) : bigSep Finset.univ Φ = iprop(Φ 0 ∗ Φ 1 ∗ Φ 2) := bigSep_univ_eq_bigSepL [0, 1, 2] (by decide) (by decide) Φ

/-- The six counters the exchange leaves alone. -/
def idle (c : Dev nD) : sProp 𝕄 :=
  iprop(semVal (sendCell c 0 (by decide)) 0 ∗ semVal (recvCell c 0 (by decide)) 0
    ∗ semVal ((c : Thread nD τ), .dma (xS 0 (by decide))) 0 ∗ semVal ((c : Thread nD τ), .dma (xS 1 (by decide))) 0
    ∗ semVal ((c : Thread nD τ), .dma (wS 0 (by decide))) 0 ∗ semVal ((c : Thread nD τ), .dma (wS 1 (by decide))) 0)

omit [FloatOps F] in
theorem ownSems0_eq (c : Dev nD) : (Pipeline.ownSems0 (Ix := Unit) (Name := ℕ) (U := UU) (Lvl := ℕ) (Val := Elt F) (τ := τ) osem c : sProp 𝕄)
    = iprop(((bigSep Finset.univ fun i : Fin 7 => semVal (sendCell c (i.val + 1) (up i)) 0) ∗ bigSep Finset.univ fun i : Fin 7 => semVal (recvCell c (i.val + 1) (up i)) 0) ∗ idle c) := by
  unfold Pipeline.ownSems0
  rw [bigSep_univ_sum, bigSep_univ_sum (fun b : Fin 7 ⊕ Fin 7 => (semVal ((c : Thread nD τ), osem (.inl b)) 0 : sProp 𝕄)),
    bigSep_univ_eq_bigSepL [0, 1, 2, 3, 4, 5] (by decide) (by decide) (fun b : Fin 6 => (semVal ((c : Thread nD τ), osem (.inr b)) 0 : sProp 𝕄))]
  rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The tokens -/

/-- The duties of a device's own cells: for each `i`, the barrier's `i + 1`, the send cell's, the receive cell's. -/
def tokOf (x : (Dev nD × Fin 7) × Fin 3) : GSem nD τ sig × ℕ × ℕ :=
  match x.2 with
  | 0 => (barCell x.1.1, 0, x.1.2.val + 1)
  | 1 => (sendCell x.1.1 (x.1.2.val + 1) (up _), 0, 0)
  | 2 => (recvCell x.1.1 (x.1.2.val + 1) (up _), 0, 0)
theorem tokOf_inj : Function.Injective tokOf := by
  have hs : ∀ {c c' : Dev nD} {j j' : CI}, kcell (c, j) = kcell (c', j') → c = c' ∧ j = j' := fun h => by
    have := kcell_inj h; exact ⟨congrArg Prod.fst this, congrArg Prod.snd this⟩
  have he : ∀ (x y : (Dev nD × Fin 7) × Fin 3), tokOf x = tokOf y → (tokOf x).1 = (tokOf y).1 ∧ (tokOf x).2.2 = (tokOf y).2.2 := fun x y h => by rw [h]; exact ⟨rfl, rfl⟩
  have cell : ∀ (c : Dev nD) (i : Fin 7) (k : Fin 3), (tokOf ((c, i), k)).1
      = kcell (c, match k with | 0 => .inl () | 1 => .inr (.inl i) | 2 => .inr (.inr i)) := fun c i k => by fin_cases k <;> rfl
  rintro ⟨⟨c, i⟩, k⟩ ⟨⟨c', i'⟩, k'⟩ h
  obtain ⟨h1, h2⟩ := he _ _ h
  rw [cell, cell] at h1
  obtain ⟨hc, hj⟩ := hs h1
  subst hc
  fin_cases k <;> fin_cases k'
  · have h2' : i.val + 1 = i'.val + 1 := h2
    have : i = i' := Fin.ext (by omega)
    rw [this]
  · cases hj
  · cases hj
  · cases hj
  · injection hj with hj; injection hj with hj; rw [hj]
  · injection hj with hj; cases hj
  · cases hj
  · injection hj with hj; cases hj
  · injection hj with hj; injection hj with hj; rw [hj]
def exToks : Finset (GSem nD τ sig × ℕ × ℕ) := Finset.univ.map ⟨tokOf, tokOf_inj⟩

/-- The tokens of device `c`'s own cells at `i`; -/
def toks (x : Dev nD × Fin 7) : sProp 𝕄 :=
  iprop(dutyTok ER (barCell x.1) 0 (x.2.val + 1) ∗ dutyTok ER (sendCell x.1 (x.2.val + 1) (up _)) 0 0 ∗ dutyTok ER (recvCell x.1 (x.2.val + 1) (up _)) 0 0)
/-- and those of the duties it discharges at its copy `i + 1`. -/
def pays (x : Dev nD × Fin 7) : sProp 𝕄 :=
  iprop(sendTok x.1 (x.2.val + 1) (up _) ∗ dutyTok ER (barCell (peer x.1 (x.2.val + 1))) 0 ((Fin.rev x.2).val + 1))

/-- Device and copy, to the device the copy goes to and the same copy; -/
def hop : Dev nD × Fin 7 ≃ Dev nD × Fin 7 where
  toFun x := (peer x.1 (x.2.val + 1), x.2)
  invFun x := (peer x.1 (7 - x.2.val), x.2)
  left_inv x := by rcases x with ⟨c, i⟩; exact congrArg (·, i) (peer_peer c (by have := i.isLt; dsimp only; omega))
  right_inv x := by rcases x with ⟨c, i⟩; exact congrArg (·, i) (peer_peer c (by have := i.isLt; dsimp only; omega))
/-- to that device and the copy that comes back from it. -/
def back : Dev nD × Fin 7 ≃ Dev nD × Fin 7 where
  toFun x := (peer x.1 (x.2.val + 1), Fin.rev x.2)
  invFun x := (peer x.1 (x.2.val + 1), Fin.rev x.2)
  left_inv x := by
    rcases x with ⟨c, i⟩
    exact Prod.ext (peer_peer c (by have := i.isLt; dsimp only [Fin.val_rev]; omega)) (Fin.rev_rev i)
  right_inv x := by
    rcases x with ⟨c, i⟩
    exact Prod.ext (peer_peer c (by have := i.isLt; dsimp only [Fin.val_rev]; omega)) (Fin.rev_rev i)

omit [FloatOps F] in
/-- The tokens, dealt: every device's own cells' become every device's to pay. -/
theorem dealt : (bigSep Finset.univ fun x : Dev nD × Fin 7 => (toks x : sProp 𝕄)) ⊢ bigSep Finset.univ fun x : Dev nD × Fin 7 => pays x := by
  unfold toks pays sendTok
  rw [bigSep_sep', bigSep_sep', bigSep_sep', bigSep_sep',
    bigSep_univ_equiv back (fun x : Dev nD × Fin 7 => (dutyTok ER (barCell x.1) 0 (x.2.val + 1) : sProp 𝕄)),
    bigSep_univ_equiv hop (fun x : Dev nD × Fin 7 => (dutyTok ER (recvCell x.1 (x.2.val + 1) (up _)) 0 0 : sProp 𝕄))]
  iintro ⟨H1, H2, H3⟩
  isplitl [H2 H3]
  · isplitl [H2]; · iexact H2
    iexact H3
  iexact H1

/-! ## The launch element -/

def u₀ : UU := (initOf (Pipeline.cells cfgs cellOf_inj) (Pipeline.launchToks cfgs cellOf_inj), (initOf exCells exToks, 1))

/-- What the launch element deals device `c`. -/
def G (c : Dev nD) : sProp 𝕄 :=
  iprop((bigSep Finset.univ fun j : CI => roundState ER (sched m) (kcell (c, j)) 0)
    ∗ (bigSep Finset.univ fun j : CI => iprop(atPos ER (kcell (c, j)) 0 ∅ 0 ∗ reached ER (kcell (c, j)) 0))
    ∗ bigSep Finset.univ fun i : Fin 7 => toks (c, i))

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun j : CI => Φ (kcell (c, j)) := by
    unfold exCells; rw [bigSep_map, bigSep_univ_prod]; rfl
  have hT : bigSep exToks (fun x => (dutyTok ER x.1 x.2.1 x.2.2 : sProp 𝕄)) = bigSep Finset.univ fun c : Dev nD => bigSep Finset.univ fun i : Fin 7 => toks (c, i) := by
    unfold exToks; rw [bigSep_map, bigSep_univ_prod, bigSep_univ_prod]
    exact bigSep_congr fun c _ => bigSep_congr fun i _ => by unfold toks; rw [over3]; rfl
  iintro HX
  imod (Rounds.fund ER (sched m) exCells exToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants, allocated and shared -/

/-- What stays with device `c` besides its tokens: its positions and the counters left alone. -/
def stays (c : Dev nD) : sProp 𝕄 := iprop((bigSep Finset.univ fun j : CI => atPos ER (kcell (c, j)) 0 ∅ 0) ∗ idle c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : CI => iprop(∃ κ : ℕ, cellInv ER (sched m) κ (kcell (c, j))))
          ∗ (bigSep Finset.univ fun j : CI => reached ER (kcell (c, j)) 0) ∗ stays c ∗ bigSep Finset.univ fun i : Fin 7 => toks (c, i)) := by
  have hv : iprop(semVal (barCell c) 0 ∗ (bigSep Finset.univ fun i : Fin 7 => semVal (sendCell c (i.val + 1) (up i)) 0) ∗ bigSep Finset.univ fun i : Fin 7 => semVal (recvCell c (i.val + 1) (up i)) 0)
      ⊢ (bigSep Finset.univ fun j : CI => semVal (kcell (c, j)) 0 : sProp 𝕄) := by rw [over_cells]; exact .rfl
  have ha : iprop((bigSep Finset.univ fun j : CI => semVal (kcell (c, j)) 0) ∗ bigSep Finset.univ fun j : CI => roundState ER (sched m) (kcell (c, j)) 0)
      ⊢ (|={Set.univ}=> bigSep Finset.univ fun j : CI => iprop(∃ κ : ℕ, cellInv ER (sched m) κ (kcell (c, j))) : sProp 𝕄) := by
    rw [← bigSep_sep']
    exact (bigSep_mono fun j _ => (Rounds.body_intro ER (sched m) (kcell (c, j))).trans inv_alloc).trans (bigSep_fupd _ _)
  unfold G stays
  rw [ownSems0_eq, unscopedSems0_eq, bigSep_sep']
  iintro ⟨⟨⟨Hs, Hr⟩, Hid⟩, Hb, Hst, ⟨Hat, Hre⟩, Htok⟩
  ihave Hv := hv $$ [Hs Hr Hb]
  · isplitl [Hb]; · iexact Hb
    isplitl [Hs] <;> iassumption
  imod ha $$ [Hv Hst] with Hinv
  · isplitl [Hv] <;> iassumption
  imodintro
  isplitl [Hinv]; · iexact Hinv
  isplitl [Hre]; · iexact Hre
  isplitl [Hat Hid]
  · isplitl [Hat] <;> iassumption
  iexact Htok

/-- Every cell's invariant and that its first round is reached. -/
def records (κ : GSem nD τ sig → ℕ) : sProp 𝕄 :=
  iprop((bigSep Finset.univ fun x : Dev nD × CI => cellInv ER (sched m) (κ (kcell x)) (kcell x))
    ∗ bigSep Finset.univ fun x : Dev nD × CI => reached ER (kcell x) 0)
instance (κ : GSem nD τ sig → ℕ) : Persistent (records m κ) := by unfold records; infer_instance

theorem rec_inv (κ : GSem nD τ sig → ℕ) (x : Dev nD × CI) : records m κ ⊢ cellInv ER (sched m) (κ (kcell x)) (kcell x) := by
  unfold records
  have h : (bigSep Finset.univ fun x : Dev nD × CI => cellInv ER (sched m) (κ (kcell x)) (kcell x) : sProp 𝕄) ⊢ cellInv ER (sched m) (κ (kcell x)) (kcell x) :=
    bigSep_elim (Finset.mem_univ x)
  iintro ⟨H, -⟩
  iapply h; iexact H
theorem rec_reached (κ : GSem nD τ sig → ℕ) (x : Dev nD × CI) : records m κ ⊢ reached ER (kcell x) 0 := by
  unfold records
  have h : (bigSep Finset.univ fun x : Dev nD × CI => reached ER (kcell x) 0 : sProp 𝕄) ⊢ reached ER (kcell x) 0 := bigSep_elim (Finset.mem_univ x)
  iintro ⟨-, H⟩
  iapply h; iexact H

theorem rec_know (κ : GSem nD τ sig → ℕ) (c : Dev nD) (i : Fin 7) : records m κ ⊢ know m κ c (i.val + 1) (up i) := by
  unfold know sendKnow
  iintro #H
  isplitr
  · isplitr; · iapply (rec_inv m κ (c, .inr (.inl i))); iexact H
    isplitr; · iapply (rec_inv m κ (peer c (i.val + 1), .inr (.inr i))); iexact H
    iapply (rec_reached m κ (c, .inr (.inl i))); iexact H
  isplitr; · iapply (rec_inv m κ (c, .inr (.inl i))); iexact H
  isplitr; · iapply (rec_inv m κ (c, .inr (.inr i))); iexact H
  isplitr; · iapply (rec_inv m κ (peer c (i.val + 1), .inl ())); iexact H
  isplitr; · iapply (rec_reached m κ (peer c (i.val + 1), .inl ())); iexact H
  iapply (rec_reached m κ (c, .inr (.inr i))); iexact H

/-- The ghost state device `c`'s body starts from. -/
def ghost (κ : GSem nD τ sig → ℕ) (c : Dev nD) : sProp 𝕄 :=
  iprop((bigSep Finset.univ fun i : Fin 7 => know m κ c (i.val + 1) (up i)) ∗ cellInv ER (sched m) (κ (barCell c)) (barCell c)
    ∗ stays c ∗ bigSep Finset.univ fun i : Fin 7 => pays (c, i))
def G' (c : Dev nD) : sProp 𝕄 := iprop(∃ κ, ghost m κ c)

theorem ghost_intro (κ : GSem nD τ sig → ℕ) (c : Dev nD) :
    iprop(records m κ ∗ stays c ∗ bigSep Finset.univ fun i : Fin 7 => pays (c, i)) ⊢ G' m c := by
  unfold G' ghost
  iintro ⟨#H, H1, H2⟩
  iexists κ
  isplitr
  · iapply ((BI.bigSep_of_persistent Finset.univ (records m κ)).trans (bigSep_mono fun i _ => rec_know m κ c i)); iexact H
  isplitr; · iapply (rec_inv m κ (c, .inl ())); iexact H
  isplitl [H1] <;> iassumption

omit [FloatOps F] in
theorem with_all {I : Type} [DecidableEq I] {S : Finset I} {R : sProp 𝕄} [Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The names the invariants were allocated under, as one table over the cells. -/
theorem named : (bigSep Finset.univ fun x : Dev nD × CI => iprop(∃ κ : ℕ, cellInv ER (sched m) κ (kcell x)) : sProp 𝕄)
    ⊢ iprop(∃ κ : GSem nD τ sig → ℕ, bigSep Finset.univ fun x : Dev nD × CI => cellInv ER (sched m) (κ (kcell x)) (kcell x)) := by
  have e : ∀ Φ : GSem nD τ sig → sProp 𝕄, (bigSep Finset.univ fun x : Dev nD × CI => Φ (kcell x)) = bigSep exCells Φ := fun Φ => by
    unfold exCells; rw [bigSep_map]; rfl
  rw [e fun g => iprop(∃ κ : ℕ, cellInv ER (sched m) κ g)]
  refine (BI.bigSep_exists_pi exCells (fun (g : GSem nD τ sig) (κ : ℕ) => (cellInv ER (sched m) κ g : sProp 𝕄))).trans ?_
  iintro ⟨%κ, H⟩
  iexists κ
  iapply (Entails.of_eq (e fun g => cellInv ER (sched m) (κ g) g).symm)
  iexact H

theorem regroup :
    (bigSep Finset.univ fun c : Dev nD => iprop((bigSep Finset.univ fun j : CI => iprop(∃ κ : ℕ, cellInv ER (sched m) κ (kcell (c, j))))
          ∗ (bigSep Finset.univ fun j : CI => reached ER (kcell (c, j)) 0) ∗ stays c ∗ bigSep Finset.univ fun i : Fin 7 => toks (c, i)) : sProp 𝕄)
      ⊢ bigSep Finset.univ (G' m) := by
  rw [bigSep_sep', bigSep_sep', bigSep_sep', ← bigSep_univ_prod (fun x : Dev nD × CI => iprop(∃ κ : ℕ, cellInv ER (sched m) κ (kcell x))),
    ← bigSep_univ_prod (fun x : Dev nD × CI => (reached ER (kcell x) 0 : sProp 𝕄)), ← bigSep_univ_prod (fun x : Dev nD × Fin 7 => (toks x : sProp 𝕄))]
  iintro ⟨HI, #HR, Hst, Htok⟩
  ihave HK := (named m) $$ HI
  icases HK with ⟨%κ, #HI⟩
  ihave Htk := (dealt (F := F)) $$ Htok
  ihave Htk' := (Entails.of_eq (bigSep_univ_prod (fun x : Dev nD × Fin 7 => (pays x : sProp 𝕄)))) $$ Htk
  iapply (with_all (R := records m κ) fun c _ => ghost_intro m κ c)
  isplitr
  · unfold records; isplitl; · iexact HI
    iexact HR
  rw [bigSep_sep']
  isplitl [Hst] <;> iassumption

/-- All devices' semaphores and dealt state, at once, become what each starts from. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem bar_ne_recv {c d : Dev nD} {k : ℕ} {h : k < 8} : barCell c ≠ recvCell d k h := fun e => by cases congrArg Prod.snd e
theorem peer_iff {c d : Dev nD} {j k : ℕ} (h : j + k = 8) : peer d j = c ↔ d = peer c k :=
  ⟨fun e => by rw [← e, peer_peer d h], fun e => by rw [e, peer_peer c (by omega)]⟩

theorem tB_bar (c d : Dev nD) (k : ℕ) (hk : k ≤ 8) : tB d k (barCell c) () = if d = peer c (8 - k) then 1 else 0 := by
  unfold tB
  rw [tallyAt_apply]
  refine if_congr ⟨fun h => (peer_iff (by omega)).mp (congrArg (fun g : GSem nD τ sig => g.1.1) h.1.symm), fun h => ⟨?_, rfl⟩⟩ rfl rfl
  rw [(peer_iff (by omega)).mpr h]
theorem tB_recv (c d : Dev nD) (k j : ℕ) (h : k < 8) : tB d j (recvCell c k h) () = 0 := by
  unfold tB; rw [tallyAt_apply, if_neg fun e => bar_ne_recv e.1.symm]
theorem tR_bar (c d : Dev nD) (k : ℕ) : tR d k (barCell c) () = 0 := by
  unfold tR; split
  · rw [tallyAt_apply, if_neg fun e => bar_ne_recv e.1]
  · rfl
theorem tR_recv (c d : Dev nD) (k j : ℕ) (h : k < 8) : tR d j (recvCell c k h) () = if j = k then (if d = peer c (8 - k) then Nof k else 0) else 0 := by
  unfold tR
  by_cases hj : j < 8
  · rw [dif_pos hj, tallyAt_apply]
    by_cases e : j = k
    · subst e
      rw [if_pos rfl]
      refine if_congr ⟨fun h => (peer_iff (by omega)).mp (congrArg (fun g : GSem nD τ sig => g.1.1) h.1.symm), fun h => ⟨?_, rfl⟩⟩ rfl rfl
      rw [(peer_iff (by omega)).mpr h]
    · rw [if_neg e, if_neg fun h' => e ?_]
      have h1 : (SemLoc.dma (recvS k h) : SemLoc sig) = .dma (recvS j hj) := congrArg Prod.snd h'.1
      injection h1 with h1
      have h2 := congrArg Fin.val h1
      rw [recvS_val ⟨k, h⟩, recvS_val ⟨j, hj⟩] at h2
      dsimp only at h2; omega
  · rw [dif_neg hj, if_neg (by omega)]; rfl

theorem O₀_apply (d : Dev nD) (g : GSem nD τ sig) : O₀ d g () = ∑ k ∈ Finset.Ico 1 8, tR d k g () + ∑ k ∈ Finset.Ico 1 8, tB d k g () := by
  unfold O₀ oR oB
  rw [Pi.add_apply, Finsupp.add_apply, Finset.sum_apply, Finset.sum_apply, Finsupp.finset_sum_apply, Finsupp.finset_sum_apply]

/-- All that is owed to a barrier cell: seven units; -/
theorem owed_bar (c : Dev nD) : ∑ d : Dev nD, O₀ d (barCell c) () = 7 := by
  have h : ∀ d : Dev nD, O₀ d (barCell c) () = ∑ k ∈ Finset.Ico 1 8, if d = peer c (8 - k) then 1 else 0 := fun d => by
    rw [O₀_apply, Finset.sum_eq_zero fun k _ => tR_bar c d k, zero_add]
    exact Finset.sum_congr rfl fun k hk => tB_bar c d k (by have := (Finset.mem_Ico.mp hk).2; omega)
  rw [Finset.sum_congr rfl fun d _ => h d, Finset.sum_comm,
    Finset.sum_congr rfl fun k _ => (Finset.sum_ite_eq' Finset.univ (peer c (8 - k)) fun _ => 1).trans (if_pos (Finset.mem_univ _))]
  rfl
/-- to a receive cell: its copy's credit. -/
theorem owed_recv (c : Dev nD) (k : ℕ) (h : k < 8) (h0 : 0 < k) : ∑ d : Dev nD, O₀ d (recvCell c k h) () = Nof k := by
  have h1 : ∀ d : Dev nD, O₀ d (recvCell c k h) () = if d = peer c (8 - k) then Nof k else 0 := fun d => by
    rw [O₀_apply, Finset.sum_eq_zero (s := Finset.Ico 1 8) fun j _ => tB_recv c d k j h, add_zero, Finset.sum_congr rfl fun j _ => tR_recv c d k j h,
      Finset.sum_ite_eq' (Finset.Ico 1 8) k, if_pos (Finset.mem_Ico.mpr ⟨h0, h⟩)]
  rw [Finset.sum_congr rfl fun d _ => h1 d, Finset.sum_ite_eq' Finset.univ (peer c (8 - k)) fun _ => Nof k, if_pos (Finset.mem_univ _)]

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- What is owed to device `c`, as its credit. -/
def credits (c : Dev nD) : sProp 𝕄 :=
  iprop(cred (tallyAt (barCell c) () 7) ∗ bigSep Finset.univ fun i : Fin 7 => cred (tallyAt (recvCell c (i.val + 1) (up i)) () (Nof (i.val + 1))))

omit [FloatOps F] in
theorem creds (c : Dev nD) : (Pipeline.launchCred O₀ c : sProp 𝕄) ⊢ credits c := by
  unfold Pipeline.launchCred credits
  have h0 : (bigSep Finset.univ fun sm : SemLoc sig => (cred (tallyOn ((c : Thread nD τ), sm) (launchCredit (Pipeline.owing O₀) 0 ((c : Thread nD τ), sm))) : sProp 𝕄))
      ⊢ bigSep Finset.univ fun j : CI => cred (tallyOn (kcell (c, j)) (launchCredit (Pipeline.owing O₀) 0 (kcell (c, j)))) := by
    refine (bigSep_subset (Finset.subset_univ (Finset.univ.map ⟨csem, csem_inj⟩))).trans ?_
    rw [bigSep_map]
    show (bigSep Finset.univ fun j : CI => (cred (tallyOn (kcell (c, j)) (launchCredit (Pipeline.owing O₀) 0 (kcell (c, j)))) : sProp 𝕄)) ⊢ _
    exact .rfl
  rw [over_cells] at h0
  iintro H
  ihave H' := h0 $$ H
  icases H' with ⟨HB, -, HR⟩
  isplitl [HB]
  · iapply (Entails.of_eq (congrArg cred (launch_at (barCell c) 7 (owed_bar c)))); iexact HB
  have h : (bigSep Finset.univ fun i : Fin 7 => (cred (tallyOn (recvCell c (i.val + 1) (up i)) (launchCredit (Pipeline.owing O₀) 0 (recvCell c (i.val + 1) (up i)))) : sProp 𝕄))
      ⊢ bigSep Finset.univ fun i : Fin 7 => cred (tallyAt (recvCell c (i.val + 1) (up i)) () (Nof (i.val + 1))) :=
    bigSep_mono fun i _ => Entails.of_eq (congrArg cred (launch_at _ _ (owed_recv c (i.val + 1) (up i) (Nat.succ_pos _))))
  iapply h
  iexact HR

end Cert.KernelIdeal.A2A

end
-- ==== Proof.KernelIdeal.Slots.lean ====
module

public import proofs.«01_k».proof.Proof.KernelIdeal.Held
public import Idealize.ShloMosaic.Lib.Ring

/- A scratch buffer held whole is held slot by slot, and back: what the launch hands over against what the body works on. -/

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

omit [FloatOps F] in
/-- A slot is held by its box's elements in the buffer. -/
theorem pts_slot {s s₁ s' : Shape} {e : EltTy} (M : Memref sig .tc .vmem s e) (r : Rect s) (hr) (hs : r.shape.Squeezes s') (c : Dev nD)
    (f : Buf (Elt F) (M.view.loc (c : Thread nD τ))) :
    (pts ((M.slice r hr).squeeze s' hs) c f : sProp 𝕄) = (M.view.loc (c : Thread nD τ) ↦[r.set.map M.view.emb]{fullShare} f) := by
  have h : ((M.slice r hr).squeeze s' hs).view.set = r.set.map M.view.emb := (View.set_reshape _ _).trans (View.set_slice _ _)
  show (M.view.loc (c : Thread nD τ) ↦[((M.slice r hr).squeeze s' hs).view.set]{fullShare} f : sProp 𝕄) = _
  rw [h]

section Split

variable {NB : ℕ} {s : Shape} {e : EltTy} (M : Memref sig .tc .vmem s e) (hM : M.view.set = Finset.univ) (c : Dev nD) (R : Fin NB → Rect s)
  (hd : ∀ b b', b ≠ b' → Disjoint (R b).set (R b').set) (hc : Finset.univ.biUnion (fun b => (R b).set) = Finset.univ)

/-- The elements of the buffer under box `b`. -/
def under (b : Fin NB) : Finset (Idx (M.view.loc (c : Thread nD τ))) := (R b).set.map M.view.emb

include hd in
theorem under_disjoint (b b' : Fin NB) (h : b ≠ b') : Disjoint (under M c R b) (under M c R b') :=
  (Finset.disjoint_map _).mpr (hd b b' h)

include hM hc in
theorem under_cover : Finset.univ.biUnion (under M c R) = Finset.univ := by
  refine Finset.eq_univ_iff_forall.mpr fun i => ?_
  have hi : i ∈ M.view.set := hM ▸ Finset.mem_univ i
  obtain ⟨z, -, rfl⟩ := Finset.mem_map.mp hi
  obtain ⟨b, hb, hz⟩ := Finset.mem_biUnion.mp (hc ▸ Finset.mem_univ z)
  exact Finset.mem_biUnion.mpr ⟨b, hb, Finset.mem_map_of_mem _ hz⟩

omit [FloatOps F] in
include hM hd hc in
/-- Boxes that tile a buffer: the buffer whole at some contents is each box at some contents; -/
theorem slots_split : iprop(∃ f, M.view.loc (c : Thread nD τ) ↦{fullShare} f)
    ⊢ (bigSep Finset.univ fun b => iprop(∃ f, M.view.loc (c : Thread nD τ) ↦[under M c R b]{fullShare} f) : sProp 𝕄) := by
  refine exists_elim fun f => ?_
  rw [Ring.pointsTo_blocks (under M c R) (under_disjoint M c R hd) (under_cover M hM c R hc) f]
  exact bigSep_mono fun b _ => exists_intro (Φ := fun f => (M.view.loc (c : Thread nD τ) ↦[under M c R b]{fullShare} f : sProp 𝕄)) f

omit [FloatOps F] in
include hM hd hc in
/-- and back. -/
theorem slots_join (f₀ : Buf (Elt F) (M.view.loc (c : Thread nD τ))) :
    (bigSep Finset.univ fun b => iprop(∃ f, M.view.loc (c : Thread nD τ) ↦[under M c R b]{fullShare} f) : sProp 𝕄)
      ⊢ iprop(∃ f, M.view.loc (c : Thread nD τ) ↦{fullShare} f) :=
  Ring.pointsTo_blocks_join_exists (under M c R) (under_disjoint M c R hd) (under_cover M hM c R hc) f₀

end Split

abbrev rect4 (b : Fin 4) : Rect S4x1024x1024 := Rect.unit (s := S4x1024x1024) ![b.val, 0, 0] S1x1024x1024.size (inb4 b.isLt)
abbrev rect3 (b : Fin 3) : Rect S3x1024x1024 := Rect.unit (s := S3x1024x1024) ![b.val, 0, 0] S1x1024x1024.size (inb3 b.isLt)
abbrev rectW (b : Fin 2) : Rect S2x1024x1024 := Rect.unit (s := S2x1024x1024) ![b.val, 0, 0] S1x1024x1024.size (inb2w b.isLt)
abbrev rectX (b : Fin 2) : Rect S2x512x1024 := Rect.unit (s := S2x512x1024) ![b.val, 0, 0] S1x512x1024.size (inb2x b.isLt)

/-- Boxes one plane thick, one per plane, tile a rank-three shape. -/
theorem planes {NB : ℕ} {n p : ℕ} (inb : ∀ b : Fin NB, ∀ a, (![b.val, 0, 0] : Fin 3 → ℕ) a + (![1, n, p] : Fin 3 → ℕ) a ≤ (⟨3, ![NB, n, p]⟩ : Shape).size a) :
    (∀ b b', b ≠ b' → Disjoint (Rect.unit (s := ⟨3, ![NB, n, p]⟩) ![b.val, 0, 0] ![1, n, p] (inb b)).set (Rect.unit (s := ⟨3, ![NB, n, p]⟩) ![b'.val, 0, 0] ![1, n, p] (inb b')).set)
    ∧ Finset.univ.biUnion (fun b => (Rect.unit (s := ⟨3, ![NB, n, p]⟩) ![b.val, 0, 0] ![1, n, p] (inb b)).set) = Finset.univ := by
  have h0 : ∀ b : Fin NB, (![b.val, 0, 0] : Fin 3 → ℕ) 0 = 1 * b.val := fun b => (Nat.one_mul _).symm
  have h1 : ∀ (b : Fin NB) (a : Fin 3), a ≠ 0 → (![b.val, 0, 0] : Fin 3 → ℕ) a = 0 := fun b a h => by
    fin_cases a
    · exact absurd rfl h
    · rfl
    · rfl
  have h2 : ∀ a : Fin 3, a ≠ 0 → (![1, n, p] : Fin 3 → ℕ) a = (⟨3, ![NB, n, p]⟩ : Shape).size a := fun a h => by
    fin_cases a
    · exact absurd rfl h
    · rfl
    · rfl
  exact ⟨Ring.lead_disjoint (s := ⟨3, ![NB, n, p]⟩) 0 1 _ _ inb h0 rfl,
    Ring.lead_cover (s := ⟨3, ![NB, n, p]⟩) 0 1 _ _ inb h0 h1 rfl h2 (Nat.mul_one _)⟩

omit [FloatOps F] in
theorem all4_eq {e : EltTy} (M : Memref sig .tc .vmem S4x1024x1024 e) (c : Dev nD) :
    (all4 (F := F) M c : sProp 𝕄) = bigSep Finset.univ fun b : Fin 4 => iprop(∃ f, M.view.loc (c : Thread nD τ) ↦[under M c rect4 b]{fullShare} f) := by
  rw [bigSep_univ_eq_bigSepL [0, 1, 2, 3] (by decide) (by decide)]
  unfold all4; simp only [pts_slot (s₁ := S1x1024x1024)]; rfl
omit [FloatOps F] in
theorem all3_eq {e : EltTy} (M : Memref sig .tc .vmem S3x1024x1024 e) (c : Dev nD) :
    (all3 (F := F) M c : sProp 𝕄) = bigSep Finset.univ fun b : Fin 3 => iprop(∃ f, M.view.loc (c : Thread nD τ) ↦[under M c rect3 b]{fullShare} f) := by
  rw [bigSep_univ_eq_bigSepL [0, 1, 2] (by decide) (by decide)]
  unfold all3; simp only [pts_slot (s₁ := S1x1024x1024)]; rfl
omit [FloatOps F] in
theorem allX_eq (c : Dev nD) :
    (allX (F := F) c : sProp 𝕄) = bigSep Finset.univ fun b : Fin 2 => iprop(∃ f, xsM.view.loc (c : Thread nD τ) ↦[under xsM c rectX b]{fullShare} f) := by
  rw [bigSep_univ_eq_bigSepL [0, 1] (by decide) (by decide)]
  unfold allX; simp only [pts_slot (s₁ := S1x512x1024)]; rfl
omit [FloatOps F] in
theorem allW_eq (c : Dev nD) :
    (allW (F := F) c : sProp 𝕄) = bigSep Finset.univ fun b : Fin 2 => iprop(∃ f, wsM.view.loc (c : Thread nD τ) ↦[under wsM c rectW b]{fullShare} f) := by
  rw [bigSep_univ_eq_bigSepL [0, 1] (by decide) (by decide)]
  unfold allW; simp only [pts_slot (s₁ := S1x1024x1024)]; rfl

section Eqs

variable (c : Dev nD)

omit [FloatOps F] in
theorem split4 {e : EltTy} (M : Memref sig .tc .vmem S4x1024x1024 e) (hM : M.view.set = Finset.univ) :
    iprop(∃ f, M.view.loc (c : Thread nD τ) ↦{fullShare} f) ⊢ (all4 (F := F) M c : sProp 𝕄) := by
  rw [all4_eq]; exact slots_split M hM c rect4 (planes fun b => inb4 b.isLt).1 (planes fun b => inb4 b.isLt).2
omit [FloatOps F] in
theorem split3 {e : EltTy} (M : Memref sig .tc .vmem S3x1024x1024 e) (hM : M.view.set = Finset.univ) :
    iprop(∃ f, M.view.loc (c : Thread nD τ) ↦{fullShare} f) ⊢ (all3 (F := F) M c : sProp 𝕄) := by
  rw [all3_eq]; exact slots_split M hM c rect3 (planes fun b => inb3 b.isLt).1 (planes fun b => inb3 b.isLt).2
omit [FloatOps F] in
theorem splitX : iprop(∃ f, xsM.view.loc (c : Thread nD τ) ↦{fullShare} f) ⊢ (allX (F := F) c : sProp 𝕄) := by
  rw [allX_eq]; exact slots_split xsM (View.set_whole _) c rectX (planes fun b => inb2x b.isLt).1 (planes fun b => inb2x b.isLt).2
omit [FloatOps F] in
theorem splitW : iprop(∃ f, wsM.view.loc (c : Thread nD τ) ↦{fullShare} f) ⊢ (allW (F := F) c : sProp 𝕄) := by
  rw [allW_eq]; exact slots_split wsM (View.set_whole _) c rectW (planes fun b => inb2w b.isLt).1 (planes fun b => inb2w b.isLt).2

omit [FloatOps F] in
theorem join4 {e : EltTy} (M : Memref sig .tc .vmem S4x1024x1024 e) (hM : M.view.set = Finset.univ) (f₀ : Buf (Elt F) (M.view.loc (c : Thread nD τ))) :
    (all4 (F := F) M c : sProp 𝕄) ⊢ iprop(∃ f, M.view.loc (c : Thread nD τ) ↦{fullShare} f) := by
  rw [all4_eq]; exact slots_join M hM c rect4 (planes fun b => inb4 b.isLt).1 (planes fun b => inb4 b.isLt).2 f₀
omit [FloatOps F] in
theorem join3 {e : EltTy} (M : Memref sig .tc .vmem S3x1024x1024 e) (hM : M.view.set = Finset.univ) (f₀ : Buf (Elt F) (M.view.loc (c : Thread nD τ))) :
    (all3 (F := F) M c : sProp 𝕄) ⊢ iprop(∃ f, M.view.loc (c : Thread nD τ) ↦{fullShare} f) := by
  rw [all3_eq]; exact slots_join M hM c rect3 (planes fun b => inb3 b.isLt).1 (planes fun b => inb3 b.isLt).2 f₀
omit [FloatOps F] in
theorem joinX (f₀ : Buf (Elt F) (xsM.view.loc (c : Thread nD τ))) :
    (allX (F := F) c : sProp 𝕄) ⊢ iprop(∃ f, xsM.view.loc (c : Thread nD τ) ↦{fullShare} f) := by
  rw [allX_eq]; exact slots_join xsM (View.set_whole _) c rectX (planes fun b => inb2x b.isLt).1 (planes fun b => inb2x b.isLt).2 f₀
omit [FloatOps F] in
theorem joinW (f₀ : Buf (Elt F) (wsM.view.loc (c : Thread nD τ))) :
    (allW (F := F) c : sProp 𝕄) ⊢ iprop(∃ f, wsM.view.loc (c : Thread nD τ) ↦{fullShare} f) := by
  rw [allW_eq]; exact slots_join wsM (View.set_whole _) c rectW (planes fun b => inb2w b.isLt).1 (planes fun b => inb2w b.isLt).2 f₀

end Eqs

end Cert.KernelIdeal.A2A

end
-- ==== Proof.KernelIdeal.Enter.lean ====
module

public import proofs.«01_k».proof.Proof.KernelIdeal.Deal
public import proofs.«01_k».proof.Proof.KernelIdeal.Slots
public import Idealize.ShloMosaic.Lib.Transfers
public import Idealize.ShloMosaic.Lib.SparseCore.Launch

/- From what the launch hands a device to what its body starts from, and from what the body leaves to what the launch takes back. -/

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The two argument arrays, whole. -/
def args (c : Dev nD) : sProp 𝕄 :=
  iprop(((c : Thread nD τ).loc main_arg0 ↦{fullShare} X m c) ∗ ((c : Thread nD τ).loc main_arg1 ↦{fullShare} Wt m c))
/-- The scratch buffers, whole, contents arbitrary. -/
def scr (c : Dev nD) : sProp 𝕄 :=
  iprop((∃ f, r8M.view.loc (c : Thread nD τ) ↦{fullShare} f) ∗ (∃ f, r16M.view.loc (c : Thread nD τ) ↦{fullShare} f) ∗ (∃ f, s8M.view.loc (c : Thread nD τ) ↦{fullShare} f)
    ∗ (∃ f, s16M.view.loc (c : Thread nD τ) ↦{fullShare} f) ∗ (∃ f, xsM.view.loc (c : Thread nD τ) ↦{fullShare} f) ∗ (∃ f, wsM.view.loc (c : Thread nD τ) ↦{fullShare} f))
omit [FloatOps F] in
theorem scr_eq (c : Dev nD) : (Pipeline.scopedRest cfg0.spec c : sProp 𝕄) = scr c := scopedRest0_eq c

omit [FloatOps F] in
/-- A whole array as two read shares and the rest. -/
theorem two (c : Dev nD) (b : Ref sig .tc) (f : Buf (Elt F) ((c : Thread nD τ).loc b)) :
    ((c : Thread nD τ).loc b ↦{fullShare} f : sProp 𝕄) ⊣⊢ iprop(((c : Thread nD τ).loc b ↦{Transfers.shareDrop fullShare 2} f)
      ∗ ((c : Thread nD τ).loc b ↦{Transfers.shareTokN fullShare 0} f) ∗ ((c : Thread nD τ).loc b ↦{Transfers.shareTokN fullShare 1} f)) := by
  have h : ((c : Thread nD τ).loc b ↦{fullShare} f : sProp 𝕄) ⊣⊢ iprop(((c : Thread nD τ).loc b ↦{Transfers.shareDrop fullShare 2} f)
      ∗ bigSep (Finset.range 2) fun i => (c : Thread nD τ).loc b ↦{Transfers.shareTokN fullShare i} f) :=
    Transfers.pointsTo_toks_range (ℓ := (c : Thread nD τ).loc b) (S := Finset.univ) (f := f) fullShare 2
  rw [show Finset.range 2 = {0, 1} by decide, SparseCore.bigSep_insert' (by decide), bigSep_singleton] at h
  exact h

/-- The part of the arrays and the counters the body never sees. -/
def rest (c : Dev nD) : sProp 𝕄 :=
  iprop(((c : Thread nD τ).loc main_arg0 ↦{Transfers.shareDrop fullShare 2} X m c) ∗ ((c : Thread nD τ).loc main_arg1 ↦{Transfers.shareDrop fullShare 2} Wt m c)
    ∗ semVal (sendCell c 0 (by decide)) 0 ∗ semVal (recvCell c 0 (by decide)) 0)

/-- What `bar_run` starts from, but for the debt and the output. -/
def start₁ (κ : GSem nD τ sig → ℕ) (c : Dev nD) : sProp 𝕄 :=
  iprop((know m κ c 1 (by decide) ∗ know m κ c 2 (by decide) ∗ know m κ c 3 (by decide) ∗ know m κ c 4 (by decide) ∗ know m κ c 5 (by decide) ∗ know m κ c 6 (by decide) ∗ know m κ c 7 (by decide))
      ∗ (have_ c 1 7 (by decide) ∗ have_ c 2 6 (by decide) ∗ have_ c 3 5 (by decide) ∗ have_ c 4 4 (by decide) ∗ have_ c 5 3 (by decide) ∗ have_ c 6 2 (by decide) ∗ have_ c 7 1 (by decide))
      ∗ (cellInv ER (sched m) (κ (barCell c)) (barCell c) ∗ atPos ER (barCell c) 0 ∅ 0 ∗ cred (tallyAt (barCell c) () 7))
      ∗ levAts L lv
      ∗ (landPay c 1 ∗ landPay c 2 ∗ landPay c 3 ∗ landPay c 4 ∗ landPay c 5 ∗ landPay c 6 ∗ landPay c 7)
      ∗ bufs m c)

theorem knows (κ : GSem nD τ sig → ℕ) (c : Dev nD) : (bigSep Finset.univ fun i : Fin 7 => know m κ c (i.val + 1) (up i) : sProp 𝕄) ⊢ iprop((know m κ c 1 (by decide) ∗ know m κ c 2 (by decide) ∗ know m κ c 3 (by decide) ∗ know m κ c 4 (by decide) ∗ know m κ c 5 (by decide) ∗ know m κ c 6 (by decide) ∗ know m κ c 7 (by decide))) := by
  rw [over7]; exact .rfl

omit [FloatOps F] in
theorem haves (c : Dev nD) :
    iprop((bigSep Finset.univ fun i : Fin 7 => pays (c, i)) ∗ (bigSep Finset.univ fun i : Fin 7 => atPos ER (kcell (c, .inr (.inl i))) 0 ∅ 0)
      ∗ (bigSep Finset.univ fun i : Fin 7 => atPos ER (kcell (c, .inr (.inr i))) 0 ∅ 0)
      ∗ bigSep Finset.univ fun i : Fin 7 => cred (tallyAt (recvCell c (i.val + 1) (up i)) () (Nof (i.val + 1))))
      ⊢ (iprop(have_ c 1 7 (by decide) ∗ have_ c 2 6 (by decide) ∗ have_ c 3 5 (by decide) ∗ have_ c 4 4 (by decide) ∗ have_ c 5 3 (by decide) ∗ have_ c 6 2 (by decide) ∗ have_ c 7 1 (by decide)) : sProp 𝕄) := by
  have h : ∀ i : Fin 7, iprop(pays (c, i) ∗ atPos ER (kcell (c, .inr (.inl i))) 0 ∅ 0 ∗ atPos ER (kcell (c, .inr (.inr i))) 0 ∅ 0
      ∗ cred (tallyAt (recvCell c (i.val + 1) (up i)) () (Nof (i.val + 1)))) ⊢ (have_ c (i.val + 1) ((Fin.rev i).val + 1) (up i) : sProp 𝕄) := fun i => by
    unfold pays have_
    iintro ⟨⟨H1, H2⟩, H3, H4, H5⟩
    isplitl [H1]; · iexact H1
    isplitl [H2]; · iexact H2
    isplitl [H3]; · iexact H3
    isplitl [H4]; · iexact H4
    iexact H5
  rw [← bigSep_sep', ← bigSep_sep', ← bigSep_sep']
  refine (bigSep_mono fun i _ => h i).trans ?_
  rw [over7]
  show iprop(have_ c 1 7 (by decide) ∗ have_ c 2 6 (by decide) ∗ have_ c 3 5 (by decide) ∗ have_ c 4 4 (by decide) ∗ have_ c 5 3 (by decide) ∗ have_ c 6 2 (by decide) ∗ have_ c 7 1 (by decide)) ⊢ _
  exact .rfl

/-- Into the body. -/
theorem enter (κ : GSem nD τ sig → ℕ) (c : Dev nD) : iprop(ghost m κ c ∗ credits c ∗ levAts L lv ∗ args m c ∗ scr c) ⊢ iprop(start₁ m κ c ∗ rest m c) := by
  unfold ghost credits args scr stays idle start₁ bufs rest
  rw [over_cells, landPay_1, landPay_2, landPay_3, landPay_4, landPay_5, landPay_6, landPay_7]
  iintro ⟨⟨HK, HB, ⟨⟨AB, AS, AR⟩, Z0, Z1, Zx0, Zx1, Zw0, Zw1⟩, HP⟩, ⟨CB, CR⟩, HL, ⟨HX, HW⟩, B0, B1, B2, B3, B4, B5⟩
  ihave HK' := (knows m κ c) $$ HK
  ihave HH := (haves (F := F) c) $$ [HP AS AR CR]
  · isplitl [HP]; · iexact HP
    isplitl [AS]; · iexact AS
    isplitl [AR] <;> iassumption
  ihave HX' := (two (F := F) c main_arg0 (X m c)).1 $$ HX
  icases HX' with ⟨Xd, X0, X1⟩
  ihave HW' := (two (F := F) c main_arg1 (Wt m c)).1 $$ HW
  icases HW' with ⟨Wd, W0, W1⟩
  ihave B0' := (split4 (F := F) c r8M (View.set_whole _)) $$ B0
  ihave B1' := (split4 (F := F) c r16M (View.set_whole _)) $$ B1
  ihave B2' := (split4 (F := F) c s8M (View.set_whole _)) $$ B2
  ihave B3' := (split3 (F := F) c s16M (View.set_whole _)) $$ B3
  ihave B4' := (splitX (F := F) c) $$ B4
  ihave B5' := (splitW (F := F) c) $$ B5
  unfold all4 all3 allX allW
  icases B0' with ⟨P1, P2, P3, P4⟩
  icases B1' with ⟨P0, P5, P6, P7⟩
  icases B2' with ⟨S1, S2, S3, S4⟩
  icases B3' with ⟨S5, S6, S7⟩
  icases B4' with ⟨Q0, Q1⟩
  icases B5' with ⟨V0, V1⟩
  isplitr [Xd Wd Z0 Z1]
  · isplitl [HK']; · iexact HK'
    isplitl [HH]; · iexact HH
    isplitl [HB AB CB]
    · isplitl [HB]; · iexact HB
      isplitl [AB]; · iexact AB
      iexact CB
    isplitl [HL]; · iexact HL
    isplitl [P1 P2 P3 P4 P5 P6 P7]
    · isplitl [P1]; · iexact P1
      isplitl [P2]; · iexact P2
      isplitl [P3]; · iexact P3
      isplitl [P4]; · iexact P4
      isplitl [P5]; · iexact P5
      isplitl [P6]; · iexact P6
      iexact P7
    isplitl [X0]; · iexact X0
    isplitl [X1]; · iexact X1
    isplitl [W0]; · iexact W0
    isplitl [W1]; · iexact W1
    isplitl [P0]; · iexact P0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [Q0]; · iexact Q0
    isplitl [Q1]; · iexact Q1
    isplitl [V0]; · iexact V0
    isplitl [V1]; · iexact V1
    isplitl [Zx0]; · iexact Zx0
    isplitl [Zx1]; · iexact Zx1
    isplitl [Zw0]; · iexact Zw0
    iexact Zw1
  isplitl [Xd]; · iexact Xd
  isplitl [Wd]; · iexact Wd
  isplitl [Z0]; · iexact Z0
  iexact Z1

omit [FloatOps F] in
/-- Slots, each at some contents, are their buffer at some. -/
theorem whole4 {e : EltTy} (M : Memref sig .tc .vmem S4x1024x1024 e) (hM : M.view.set = Finset.univ) (c : Dev nD) :
    (all4 (F := F) M c : sProp 𝕄) ⊢ iprop(∃ f, M.view.loc (c : Thread nD τ) ↦{fullShare} f) := by
  have h : (all4 (F := F) M c : sProp 𝕄) ⊢ iprop(∃ _ : Buf (Elt F) (M.view.loc (c : Thread nD τ)), all4 (F := F) M c) := by
    unfold all4
    iintro ⟨⟨%f, H⟩, H'⟩
    iexists f
    isplitl [H]
    · iexists f; iexact H
    iexact H'
  exact h.trans (exists_elim fun f => join4 c M hM f)
omit [FloatOps F] in
theorem whole3 {e : EltTy} (M : Memref sig .tc .vmem S3x1024x1024 e) (hM : M.view.set = Finset.univ) (c : Dev nD) :
    (all3 (F := F) M c : sProp 𝕄) ⊢ iprop(∃ f, M.view.loc (c : Thread nD τ) ↦{fullShare} f) := by
  have h : (all3 (F := F) M c : sProp 𝕄) ⊢ iprop(∃ _ : Buf (Elt F) (M.view.loc (c : Thread nD τ)), all3 (F := F) M c) := by
    unfold all3
    iintro ⟨⟨%f, H⟩, H'⟩
    iexists f
    isplitl [H]
    · iexists f; iexact H
    iexact H'
  exact h.trans (exists_elim fun f => join3 c M hM f)
omit [FloatOps F] in
theorem wholeX (c : Dev nD) : (allX (F := F) c : sProp 𝕄) ⊢ iprop(∃ f, xsM.view.loc (c : Thread nD τ) ↦{fullShare} f) := by
  have h : (allX (F := F) c : sProp 𝕄) ⊢ iprop(∃ _ : Buf (Elt F) (xsM.view.loc (c : Thread nD τ)), allX (F := F) c) := by
    unfold allX
    iintro ⟨⟨%f, H⟩, H'⟩
    iexists f
    isplitl [H]
    · iexists f; iexact H
    iexact H'
  exact h.trans (exists_elim fun f => joinX c f)
omit [FloatOps F] in
theorem wholeW (c : Dev nD) : (allW (F := F) c : sProp 𝕄) ⊢ iprop(∃ f, wsM.view.loc (c : Thread nD τ) ↦{fullShare} f) := by
  have h : (allW (F := F) c : sProp 𝕄) ⊢ iprop(∃ _ : Buf (Elt F) (wsM.view.loc (c : Thread nD τ)), allW (F := F) c) := by
    unfold allW
    iintro ⟨⟨%f, H⟩, H'⟩
    iexists f
    isplitl [H]
    · iexists f; iexact H
    iexact H'
  exact h.trans (exists_elim fun f => joinW c f)

/-- What the launch takes back. -/
def final (c : Dev nD) : sProp 𝕄 :=
  iprop((args m c ∗ unscopedSems0 c) ∗ Pipeline.ownSems0 (Ix := Unit) (Name := ℕ) (U := UU) (Lvl := ℕ) (Val := Elt F) (τ := τ) osem c ∗ Pipeline.scopedRest cfg0.spec c)

/-- Out of the body. -/
theorem leave_ (c : Dev nD) : iprop(done m c ∗ rest m c)
    ⊢ iprop(final m c ∗ (∃ W, owes (c : Thread nD τ) 0 W) ∗ (oM.view.loc (c : Thread nD τ) ↦{fullShare} outAt m c)) := by
  unfold done rest final args
  rw [unscopedSems0_eq, ownSems0_eq, scr_eq, over7, over7]
  unfold scr idle
  iintro ⟨⟨⟨X0, X1, W0, W1⟩, ⟨A0, A1, A2, A3, A4, A5⟩, ⟨Zx0, Zx1, Zw0, Zw1⟩, ⟨ZB, s1, s2, s3, s4, s5, s6, s7, r1, r2, r3, r4, r5, r6, r7⟩, HO, Hout⟩, Xd, Wd, Z0, Z1⟩
  isplitr [HO Hout]
  · isplitl [X0 X1 W0 W1 Xd Wd ZB]
    · isplitr [ZB]
      · isplitl [X0 X1 Xd]
        · iapply (two (F := F) c main_arg0 (X m c)).2
          isplitl [Xd]; · iexact Xd
          isplitl [X0] <;> iassumption
        · iapply (two (F := F) c main_arg1 (Wt m c)).2
          isplitl [Wd]; · iexact Wd
          isplitl [W0] <;> iassumption
      iexact ZB
    isplitr [A0 A1 A2 A3 A4 A5]
    · isplitr [Z0 Z1 Zx0 Zx1 Zw0 Zw1]
      · isplitl [s1 s2 s3 s4 s5 s6 s7]
        · isplitl [s1]; · iexact s1
          isplitl [s2]; · iexact s2
          isplitl [s3]; · iexact s3
          isplitl [s4]; · iexact s4
          isplitl [s5]; · iexact s5
          isplitl [s6]; · iexact s6
          iexact s7
        · isplitl [r1]; · iexact r1
          isplitl [r2]; · iexact r2
          isplitl [r3]; · iexact r3
          isplitl [r4]; · iexact r4
          isplitl [r5]; · iexact r5
          isplitl [r6]; · iexact r6
          iexact r7
      · isplitl [Z0]; · iexact Z0
        isplitl [Z1]; · iexact Z1
        isplitl [Zx0]; · iexact Zx0
        isplitl [Zx1]; · iexact Zx1
        isplitl [Zw0]; · iexact Zw0
        iexact Zw1
    · isplitl [A0]; · iapply (whole4 (F := F) r8M (View.set_whole _) c); iexact A0
      isplitl [A1]; · iapply (whole4 (F := F) r16M (View.set_whole _) c); iexact A1
      isplitl [A2]; · iapply (whole4 (F := F) s8M (View.set_whole _) c); iexact A2
      isplitl [A3]; · iapply (whole3 (F := F) s16M (View.set_whole _) c); iexact A3
      isplitl [A4]; · iapply (wholeX (F := F) c); iexact A4
      iapply (wholeW (F := F) c); iexact A5
  isplitl [HO] <;> iassumption

end Cert.KernelIdeal.A2A

end
-- ==== Proof.KernelIdeal.Body.lean ====
module

public import proofs.«01_k».proof.Proof.KernelIdeal.Held

/- The body, run once for any float values: signals, barrier, the two stagings, seven copies, eight block products. -/

@[expose] public section

noncomputable section

namespace Cert.KernelIdeal.A2A

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig Unit (Elt F) ℕ UU ℕ

variable (m : (ℓ : Loc nD τ sig) → Buf (Elt F) ℓ)

attribute [local sl_rounds] duties_bar duties_send duties_recv amount_bar amount_send amount_recv pay_bar pay_sig payload_send payload_recv
  expect_bar expect_send expect_recv

attribute [local irreducible] landPay sendPay recvPay oR sched L lv Nof k0_dev1 k0_dev2 k0_dev3 k0_dev4 k0_dev5 k0_dev6 k0_dev7 k0_dev8 k0_dev9 k0_dev10 k0_dev11 k0_dev12 k0_dev13 k0_dev14

/-- What the barrier hands over: every later device's landing slot for this device's copy. -/
def barAll (c : Dev nD) : sProp 𝕄 :=
  iprop(land (F := F) c 1 (by decide) ∗ land (F := F) c 2 (by decide) ∗ land (F := F) c 3 (by decide) ∗ land (F := F) c 4 (by decide) ∗ land (F := F) c 5 (by decide) ∗ land (F := F) c 6 (by decide) ∗ land (F := F) c 7 (by decide))

omit [FloatOps F] in
theorem barAll_eq (c : Dev nD) : (BI.sep iprop(landPay (F := F) (peer c 1) 1 ∗ reached ER (recvCell (peer c 1) 1 (by decide)) 0) (BI.sep iprop(landPay (F := F) (peer c 2) 2 ∗ reached ER (recvCell (peer c 2) 2 (by decide)) 0) (BI.sep iprop(landPay (F := F) (peer c 3) 3 ∗ reached ER (recvCell (peer c 3) 3 (by decide)) 0) (BI.sep iprop(landPay (F := F) (peer c 4) 4 ∗ reached ER (recvCell (peer c 4) 4 (by decide)) 0) (BI.sep iprop(landPay (F := F) (peer c 5) 5 ∗ reached ER (recvCell (peer c 5) 5 (by decide)) 0) (BI.sep iprop(landPay (F := F) (peer c 6) 6 ∗ reached ER (recvCell (peer c 6) 6 (by decide)) 0) (iprop(landPay (F := F) (peer c 7) 7 ∗ reached ER (recvCell (peer c 7) 7 (by decide)) 0))))))) : sProp 𝕄) = barAll (F := F) c := rfl

/-- A body that is over leaves what it holds. -/
theorem leave (c : Dev nD) (P : sProp 𝕄) :
    P ⊢ wp frame (wpE (defs₀ (F := F)) Variants.none (c : Thread nD τ) none) Set.univ (Pure.pure PUnit.unit : Prog (TpuEff nD τ sig (Elt F) Λ₀ .tc) PUnit) (fun _ => P) := by
  show P ⊢ wp frame (wpE (defs₀ (F := F)) Variants.none (c : Thread nD τ) none) Set.univ (.ret PUnit.unit) (fun _ => P)
  rw [wp_ret]
  iintro H
  imodintro
  iexact H

set_option maxHeartbeats 40000000 in
/-- The body, from what a device starts with to what it leaves. -/
theorem bar_run (κ : GSem nD τ sig → ℕ) (c : Dev nD) (W : Waits sig Unit) (fo : Buf (Elt F) (oM.view.loc (c : Thread nD τ))) :
    iprop((know m κ c 1 (by decide) ∗ know m κ c 2 (by decide) ∗ know m κ c 3 (by decide) ∗ know m κ c 4 (by decide) ∗ know m κ c 5 (by decide) ∗ know m κ c 6 (by decide) ∗ know m κ c 7 (by decide))
      ∗ (have_ c 1 7 (by decide) ∗ have_ c 2 6 (by decide) ∗ have_ c 3 5 (by decide) ∗ have_ c 4 4 (by decide) ∗ have_ c 5 3 (by decide) ∗ have_ c 6 2 (by decide) ∗ have_ c 7 1 (by decide))
      ∗ (cellInv ER (sched m) (κ (barCell c)) (barCell c) ∗ atPos ER (barCell c) 0 ∅ 0 ∗ cred (tallyAt (barCell c) () 7))
      ∗ levAts L lv
      ∗ (landPay c 1 ∗ landPay c 2 ∗ landPay c 3 ∗ landPay c 4 ∗ landPay c 5 ∗ landPay c 6 ∗ landPay c 7)
      ∗ owes (c : Thread nD τ) (oR c 1 + oB c) W ∗ bufs m c ∗ (oM.view.loc (c : Thread nD τ) ↦{fullShare} fo))
      ⊢ wp frame (wpE (defs₀ (F := F)) Variants.none (c : Thread nD τ) none) Set.univ
          (cc0_body (F := F) xM (Memref.isWhole_whole _) wM (Memref.isWhole_whole _) oM (Memref.isWhole_whole _) r8M (Memref.isWhole_whole _)
            r16M (Memref.isWhole_whole _) s8M (Memref.isWhole_whole _) s16M (Memref.isWhole_whole _) xsM (Memref.isWhole_whole _) wsM (Memref.isWhole_whole _)
            cc0_scratch6 cc0_scratch7 cc0_scratch8 cc0_scratch9) (fun _ => done m c) := by
  unfold know have_ bufs
  rw [oB_eq]
  iintro ⟨⟨⟨#K1, #Is1, #Ir1, #Ibp1, #Rb1, #Rr1⟩, ⟨#K2, #Is2, #Ir2, #Ibp2, #Rb2, #Rr2⟩, ⟨#K3, #Is3, #Ir3, #Ibp3, #Rb3, #Rr3⟩, ⟨#K4, #Is4, #Ir4, #Ibp4, #Rb4, #Rr4⟩, ⟨#K5, #Is5, #Ir5, #Ibp5, #Rb5, #Rr5⟩, ⟨#K6, #Is6, #Ir6, #Ibp6, #Rb6, #Rr6⟩, ⟨#K7, #Is7, #Ir7, #Ibp7, #Rb7, #Rr7⟩⟩,
    ⟨⟨T1, Tb1, As1, Ar1, Cr1⟩, ⟨T2, Tb2, As2, Ar2, Cr2⟩, ⟨T3, Tb3, As3, Ar3, Cr3⟩, ⟨T4, Tb4, As4, Ar4, Cr4⟩, ⟨T5, Tb5, As5, Ar5, Cr5⟩, ⟨T6, Tb6, As6, Ar6, Cr6⟩, ⟨T7, Tb7, As7, Ar7, Cr7⟩⟩,
    ⟨#Ib, Ab, Cb⟩, #Hlev, ⟨L1, L2, L3, L4, L5, L6, L7⟩, HO, ⟨HX0, HX1, HW0, HW1, ⟨%fr, R0⟩, ⟨%fs1, S1⟩, ⟨%fs2, S2⟩, ⟨%fs3, S3⟩, ⟨%fs4, S4⟩, ⟨%fs5, S5⟩, ⟨%fs6, S6⟩, ⟨%fs7, S7⟩, ⟨%fx0, SX0⟩, ⟨%fx1, SX1⟩, ⟨%fw0, SW0⟩, ⟨%fw1, SW1⟩, Zx0, Zx1, Zw0, Zw1⟩, Hout⟩
  have hOwn : Own c := own c
  have d1 : ∀ c, (⟨k0_dev1 c, k0_dev1_lt c⟩ : Dev nD) = peer c 1 := dev1_eq
  have d2 : ∀ c, (⟨k0_dev2 c, k0_dev2_lt c⟩ : Dev nD) = peer c 2 := dev2_eq
  have d3 : ∀ c, (⟨k0_dev3 c, k0_dev3_lt c⟩ : Dev nD) = peer c 3 := dev3_eq
  have d4 : ∀ c, (⟨k0_dev4 c, k0_dev4_lt c⟩ : Dev nD) = peer c 4 := dev4_eq
  have d5 : ∀ c, (⟨k0_dev5 c, k0_dev5_lt c⟩ : Dev nD) = peer c 5 := dev5_eq
  have d6 : ∀ c, (⟨k0_dev6 c, k0_dev6_lt c⟩ : Dev nD) = peer c 6 := dev6_eq
  have d7 : ∀ c, (⟨k0_dev7 c, k0_dev7_lt c⟩ : Dev nD) = peer c 7 := dev7_eq
  have hmb : (levAts L lv : sProp 𝕄) ⊢ MayWait (c : Thread nD τ) (.reg barS) () (oR c 1) := mayWait_bar c
  have hx0 : ∀ j, (levAts L lv : sProp 𝕄) ⊢ MayWait (c : Thread nD τ) (.dma (xS 0 (by decide))) () (oR c (j + 1)) := fun j => mayWait_x c j 0 (by decide)
  have hx1 : ∀ j, (levAts L lv : sProp 𝕄) ⊢ MayWait (c : Thread nD τ) (.dma (xS 1 (by decide))) () (oR c (j + 1)) := fun j => mayWait_x c j 1 (by decide)
  have hx0_1 := hx0 0
  have hx1_1 := hx1 0
  have hx0_2 := hx0 1
  have hx1_2 := hx1 1
  have hx0_3 := hx0 2
  have hx1_3 := hx1 2
  have hx0_4 := hx0 3
  have hx1_4 := hx1 3
  have hx0_5 := hx0 4
  have hx1_5 := hx1 4
  have hx0_6 := hx0 5
  have hx1_6 := hx1 5
  have hx0_7 := hx0 6
  have hx1_7 := hx1 6
  set_option sl_exec.stopBefore "k0_part4" in
  sl_exec
  ihave Hp := (Entails.of_eq (barAll_eq c)) $$ Ab_pay1
  unfold barAll
  icases Hp with ⟨L1, L2, L3, L4, L5, L6, L7⟩
  set_option sl_exec.stopBefore "k0_part8" in
  sl_exec
  have hfs1 : ∀ x, (slot4 s8M 0 (by decide)).view.read (Elt F) (bar_run.sl.S1_w2 m c fs1) x = (slot4 s8M 0 (by decide)).view.read (Elt F) (send8 m c) x :=
    halves s8M 0 (by decide) fs1 (send8 m c) _ _ _ _ (stored8 m c 0 (by decide) 0 _ (stagedX m c 1 0 0 (by decide) _ _ _ _ _ _))
      (stored8 m c 0 (by decide) 1 _ (stagedX m c 1 1 1 (by decide) _ _ _ _ _ _))
  iapply (wp_copy8 m c _ 0 1 2 (by decide) (by decide) rfl rfl (dev8_eq c) κ _ _ hfs1 (sendPay_1 c) (landPay_1 _) (recvPay_1 m (peer c 1))) $$ [S1 L1 HO T1]
  · isplitr; · iexact K1
    isplitl [S1]; · iexact S1
    isplitl [L1]; · iexact L1
    isplitl [HO]; · iexact HO
    iexact T1
  iintro ⟨Cs1, HO⟩
  set_option sl_exec.stopBefore "k0_part11" in
  sl_exec
  have hfs2 : ∀ x, (slot4 s8M 1 (by decide)).view.read (Elt F) (bar_run.sl.S2_w2 m c fs2) x = (slot4 s8M 1 (by decide)).view.read (Elt F) (send8 m c) x :=
    halves s8M 1 (by decide) fs2 (send8 m c) _ _ _ _ (stored8 m c 1 (by decide) 0 _ (stagedX m c 2 0 0 (by decide) _ _ _ _ _ _))
      (stored8 m c 1 (by decide) 1 _ (stagedX m c 2 1 1 (by decide) _ _ _ _ _ _))
  iapply (wp_copy8 m c _ 1 2 3 (by decide) (by decide) rfl rfl (dev9_eq c) κ _ _ hfs2 (sendPay_2 c) (landPay_2 _) (recvPay_2 m (peer c 2))) $$ [S2 L2 HO T2]
  · isplitr; · iexact K2
    isplitl [S2]; · iexact S2
    isplitl [L2]; · iexact L2
    isplitl [HO]; · iexact HO
    iexact T2
  iintro ⟨Cs2, HO⟩
  set_option sl_exec.stopBefore "k0_part13" in
  sl_exec
  have hfs3 : ∀ x, (slot4 s8M 2 (by decide)).view.read (Elt F) (bar_run.sl.S3_w2 m c fs3) x = (slot4 s8M 2 (by decide)).view.read (Elt F) (send8 m c) x :=
    halves s8M 2 (by decide) fs3 (send8 m c) _ _ _ _ (stored8 m c 2 (by decide) 0 _ (stagedX m c 3 0 0 (by decide) _ _ _ _ _ _))
      (stored8 m c 2 (by decide) 1 _ (stagedX m c 3 1 1 (by decide) _ _ _ _ _ _))
  iapply (wp_copy8 m c _ 2 3 4 (by decide) (by decide) rfl rfl (dev10_eq c) κ _ _ hfs3 (sendPay_3 c) (landPay_3 _) (recvPay_3 m (peer c 3))) $$ [S3 L3 HO T3]
  · isplitr; · iexact K3
    isplitl [S3]; · iexact S3
    isplitl [L3]; · iexact L3
    isplitl [HO]; · iexact HO
    iexact T3
  iintro ⟨Cs3, HO⟩
  set_option sl_exec.stopBefore "k0_part16" in
  sl_exec
  have hfs4 : ∀ x, (slot4 s8M 3 (by decide)).view.read (Elt F) (bar_run.sl.S4_w2 m c fs4) x = (slot4 s8M 3 (by decide)).view.read (Elt F) (send8 m c) x :=
    halves s8M 3 (by decide) fs4 (send8 m c) _ _ _ _ (stored8 m c 3 (by decide) 0 _ (stagedX m c 4 0 0 (by decide) _ _ _ _ _ _))
      (stored8 m c 3 (by decide) 1 _ (stagedX m c 4 1 1 (by decide) _ _ _ _ _ _))
  iapply (wp_copy8 m c _ 3 4 5 (by decide) (by decide) rfl rfl (dev11_eq c) κ _ _ hfs4 (sendPay_4 c) (landPay_4 _) (recvPay_4 m (peer c 4))) $$ [S4 L4 HO T4]
  · isplitr; · iexact K4
    isplitl [S4]; · iexact S4
    isplitl [L4]; · iexact L4
    isplitl [HO]; · iexact HO
    iexact T4
  iintro ⟨Cs4, HO⟩
  set_option sl_exec.stopBefore "k0_part18" in
  sl_exec
  have hfs5 : ∀ x, (slot3 s16M 0 (by decide)).view.read (Elt F) (bar_run.sl.S5_w2 m c fs5) x = (slot3 s16M 0 (by decide)).view.read (Elt F) (send16 m c) x :=
    halves s16M 0 (by decide) fs5 (send16 m c) _ _ _ _ (stored16 m c 0 (by decide) 0 _ (stagedX m c 5 0 0 (by decide) _ _ _ _ _ _))
      (stored16 m c 0 (by decide) 1 _ (stagedX m c 5 1 1 (by decide) _ _ _ _ _ _))
  iapply (wp_copy16 m c _ 0 1 5 6 (by decide) (by decide) (by decide) rfl rfl rfl (dev12_eq c) κ _ _ hfs5 (sendPay_5 c) (landPay_5 _) (recvPay_5 m (peer c 5))) $$ [S5 L5 HO T5]
  · isplitr; · iexact K5
    isplitl [S5]; · iexact S5
    isplitl [L5]; · iexact L5
    isplitl [HO]; · iexact HO
    iexact T5
  iintro ⟨Cs5, HO⟩
  set_option sl_exec.stopBefore "k0_part21" in
  sl_exec
  have hfs6 : ∀ x, (slot3 s16M 1 (by decide)).view.read (Elt F) (bar_run.sl.S6_w2 m c fs6) x = (slot3 s16M 1 (by decide)).view.read (Elt F) (send16 m c) x :=
    halves s16M 1 (by decide) fs6 (send16 m c) _ _ _ _ (stored16 m c 1 (by decide) 0 _ (stagedX m c 6 0 0 (by decide) _ _ _ _ _ _))
      (stored16 m c 1 (by decide) 1 _ (stagedX m c 6 1 1 (by decide) _ _ _ _ _ _))
  iapply (wp_copy16 m c _ 1 2 6 7 (by decide) (by decide) (by decide) rfl rfl rfl (dev13_eq c) κ _ _ hfs6 (sendPay_6 c) (landPay_6 _) (recvPay_6 m (peer c 6))) $$ [S6 L6 HO T6]
  · isplitr; · iexact K6
    isplitl [S6]; · iexact S6
    isplitl [L6]; · iexact L6
    isplitl [HO]; · iexact HO
    iexact T6
  iintro ⟨Cs6, HO⟩
  set_option sl_exec.stopBefore "k0_part23" in
  sl_exec
  have hfs7 : ∀ x, (slot3 s16M 2 (by decide)).view.read (Elt F) (bar_run.sl.S7_w2 m c fs7) x = (slot3 s16M 2 (by decide)).view.read (Elt F) (send16 m c) x :=
    halves s16M 2 (by decide) fs7 (send16 m c) _ _ _ _ (stored16 m c 2 (by decide) 0 _ (stagedX m c 7 0 0 (by decide) _ _ _ _ _ _))
      (stored16 m c 2 (by decide) 1 _ (stagedX m c 7 1 1 (by decide) _ _ _ _ _ _))
  iapply (wp_copy16 m c _ 2 3 7 8 (by decide) (by decide) (by decide) rfl rfl rfl (dev14_eq c) κ _ _ hfs7 (sendPay_7 c) (landPay_7 _) (recvPay_7 m (peer c 7))) $$ [S7 L7 HO T7]
  · isplitr; · iexact K7
    isplitl [S7]; · iexact S7
    isplitl [L7]; · iexact L7
    isplitl [HO]; · iexact HO
    iexact T7
  iintro ⟨Cs7, HO⟩
  rw [oR_last]
  set_option sl_exec.stopBefore "k0_part24" in
  sl_exec
  have hR0 : pts (slot4 r16M 0 (by decide)) c (bar_run.sl.R0_w2 m c fr) = pts (slot4 r16M 0 (by decide)) c (own16 m c) :=
    pts_congr _ c _ _ (halves r16M 0 (by decide) fr (own16 m c) _ _ _ _ (storedOwn m c 0 _ (stagedX m c 0 0 0 (by decide) _ _ _ _ _ _))
      (storedOwn m c 1 _ (stagedX m c 0 1 1 (by decide) _ _ _ _ _ _)))
  ihave R0 := (Entails.of_eq hR0) $$ R0
  set_option sl_exec.stopBefore "k0_part28" in
  sl_exec
  set_option sl_exec.stopBefore "k0_part29" in
  sl_exec
  iapply (wp_recv8 m κ c 0 1 (by decide) rfl (by decide) _ (recvPay_1 m c)) $$ [Cr1 HO Ar1]
  · isplitr; · iexact Ir1
    isplitl [Cr1]; · iexact Cr1
    isplitl [HO]; · iexact HO
    iexact Ar1
  iintro ⟨HO, Ar1, G1⟩
  set_option sl_exec.stopBefore "k0_part34" in
  sl_exec
  iapply (wp_recv8 m κ c 1 2 (by decide) rfl (by decide) _ (recvPay_2 m c)) $$ [Cr2 HO Ar2]
  · isplitr; · iexact Ir2
    isplitl [Cr2]; · iexact Cr2
    isplitl [HO]; · iexact HO
    iexact Ar2
  iintro ⟨HO, Ar2, G2⟩
  set_option sl_exec.stopBefore "k0_part38" in
  sl_exec
  iapply (wp_recv8 m κ c 2 3 (by decide) rfl (by decide) _ (recvPay_3 m c)) $$ [Cr3 HO Ar3]
  · isplitr; · iexact Ir3
    isplitl [Cr3]; · iexact Cr3
    isplitl [HO]; · iexact HO
    iexact Ar3
  iintro ⟨HO, Ar3, G3⟩
  set_option sl_exec.stopBefore "k0_part42" in
  sl_exec
  iapply (wp_recv8 m κ c 3 4 (by decide) rfl (by decide) _ (recvPay_4 m c)) $$ [Cr4 HO Ar4]
  · isplitr; · iexact Ir4
    isplitl [Cr4]; · iexact Cr4
    isplitl [HO]; · iexact HO
    iexact Ar4
  iintro ⟨HO, Ar4, G4⟩
  set_option sl_exec.stopBefore "k0_part47" in
  sl_exec
  iapply (wp_recv16 m κ c 1 5 (by decide) (by decide) rfl (by decide) _ (recvPay_5 m c)) $$ [Cr5 HO Ar5]
  · isplitr; · iexact Ir5
    isplitl [Cr5]; · iexact Cr5
    isplitl [HO]; · iexact HO
    iexact Ar5
  iintro ⟨HO, Ar5, G5⟩
  set_option sl_exec.stopBefore "k0_part51" in
  sl_exec
  iapply (wp_recv16 m κ c 2 6 (by decide) (by decide) rfl (by decide) _ (recvPay_6 m c)) $$ [Cr6 HO Ar6]
  · isplitr; · iexact Ir6
    isplitl [Cr6]; · iexact Cr6
    isplitl [HO]; · iexact HO
    iexact Ar6
  iintro ⟨HO, Ar6, G6⟩
  set_option sl_exec.stopBefore "k0_part55" in
  sl_exec
  iapply (wp_recv16 m κ c 3 7 (by decide) (by decide) rfl (by decide) _ (recvPay_7 m c)) $$ [Cr7 HO Ar7]
  · isplitr; · iexact Ir7
    isplitl [Cr7]; · iexact Cr7
    isplitl [HO]; · iexact HO
    iexact Ar7
  iintro ⟨HO, Ar7, G7⟩
  set_option sl_exec.stopBefore "k0_part59" in
  sl_exec
  iapply (wp_sent8 m κ c 0 1 (by decide) rfl (by decide) _ (sendPay_1 c)) $$ [Cs1 HO As1]
  · isplitr; · iexact Is1
    isplitl [Cs1]; · iexact Cs1
    isplitl [HO]; · iexact HO
    iexact As1
  iintro ⟨HO, As1, ⟨%gs1, S1⟩⟩
  set_option sl_exec.stopBefore "k0_part60" in
  sl_exec
  iapply (wp_sent8 m κ c 1 2 (by decide) rfl (by decide) _ (sendPay_2 c)) $$ [Cs2 HO As2]
  · isplitr; · iexact Is2
    isplitl [Cs2]; · iexact Cs2
    isplitl [HO]; · iexact HO
    iexact As2
  iintro ⟨HO, As2, ⟨%gs2, S2⟩⟩
  set_option sl_exec.stopBefore "k0_part60" in
  sl_exec
  iapply (wp_sent8 m κ c 2 3 (by decide) rfl (by decide) _ (sendPay_3 c)) $$ [Cs3 HO As3]
  · isplitr; · iexact Is3
    isplitl [Cs3]; · iexact Cs3
    isplitl [HO]; · iexact HO
    iexact As3
  iintro ⟨HO, As3, ⟨%gs3, S3⟩⟩
  set_option sl_exec.stopBefore "k0_part60" in
  sl_exec
  iapply (wp_sent8 m κ c 3 4 (by decide) rfl (by decide) _ (sendPay_4 c)) $$ [Cs4 HO As4]
  · isplitr; · iexact Is4
    isplitl [Cs4]; · iexact Cs4
    isplitl [HO]; · iexact HO
    iexact As4
  iintro ⟨HO, As4, ⟨%gs4, S4⟩⟩
  set_option sl_exec.stopBefore "k0_part1" in
  sl_exec
  iapply (wp_sent16 m κ c 0 1 5 (by decide) (by decide) rfl (by decide) _ (sendPay_5 c)) $$ [Cs5 HO As5]
  · isplitr; · iexact Is5
    isplitl [Cs5]; · iexact Cs5
    isplitl [HO]; · iexact HO
    iexact As5
  iintro ⟨HO, As5, ⟨%gs5, S5⟩⟩
  set_option sl_exec.stopBefore "k0_part1" in
  sl_exec
  iapply (wp_sent16 m κ c 1 2 6 (by decide) (by decide) rfl (by decide) _ (sendPay_6 c)) $$ [Cs6 HO As6]
  · isplitr; · iexact Is6
    isplitl [Cs6]; · iexact Cs6
    isplitl [HO]; · iexact HO
    iexact As6
  iintro ⟨HO, As6, ⟨%gs6, S6⟩⟩
  set_option sl_exec.stopBefore "k0_part1" in
  sl_exec
  iapply (wp_sent16 m κ c 2 3 7 (by decide) (by decide) rfl (by decide) _ (sendPay_7 c)) $$ [Cs7 HO As7]
  · isplitr; · iexact Is7
    isplitl [Cs7]; · iexact Cs7
    isplitl [HO]; · iexact HO
    iexact As7
  iintro ⟨HO, As7, ⟨%gs7, S7⟩⟩
  have e0 : ∀ f, after [⟨Rect.unit (s := S1024x4096) ![0, 3072] S1024x1024.size inb_S1024x4096_S1024x1024_0_3072, k0_pay24 (bar_run.sl.v741 m c) (bar_run.sl.v828 m c)⟩, ⟨Rect.unit (s := S1024x4096) ![0, 2048] S1024x1024.size inb_S1024x4096_S1024x1024_0_2048, bar_run.sl.r_4 m c⟩,
      ⟨Rect.unit (s := S1024x4096) ![0, 1024] S1024x1024.size inb_S1024x4096_S1024x1024_0_1024, k0_pay22 (bar_run.sl.v741 m c) (bar_run.sl.r_3 m c)⟩, ⟨Rect.unit (s := S1024x4096) ![0, 0] S1024x1024.size inb_S1024x4096_S1024x1024_0_0, k0_pay20 (bar_run.sl.v741 m c) (bar_run.sl.v747 m c)⟩] f = cols (fun q => acc m c q 0) :=
    step_first m c (bar_run.sl.v741 m c) (bar_run.sl.v747 m c) (bar_run.sl.v774 m c) (bar_run.sl.v801 m c) (bar_run.sl.v828 m c) (load_own m c _)
      (stagedW m c 0 0 0 (by decide) _ _ (offW0 c 0) _ _ _) (stagedW m c 0 1 1 (by decide) _ _ (offW1 c 0) _ _ _)
      (stagedW m c 0 2 0 (by decide) _ _ (offW2 c 0) _ _ _) (stagedW m c 0 3 1 (by decide) _ _ (offW3 c 0) _ _ _) _ _ _ _ rfl rfl rfl rfl
  have e1 : ∀ f, after (⟨Rect.unit (s := S1024x4096) ![0, 3072] S1024x1024.size inb_S1024x4096_S1024x1024_0_3072, k0_pay29 (bar_run.sl.r_5 m c) (bar_run.sl.v956 m c) (bar_run.sl.v960 m c)⟩ :: bar_run.sl.Hout_7 m c) f = cols (fun q => acc m c q 1) :=
    step_next m c 0 (bar_run.sl.r_5 m c) (bar_run.sl.v866 m c) (bar_run.sl.v896 m c) (bar_run.sl.v926 m c) (bar_run.sl.v956 m c) (load8 m c 0 (by decide) _)
      (stagedW m c 1 0 0 (by decide) _ _ (offW0 c 1) _ _ _) (stagedW m c 1 1 1 (by decide) _ _ (offW1 c 1) _ _ _)
      (stagedW m c 1 2 0 (by decide) _ _ (offW2 c 1) _ _ _) (stagedW m c 1 3 1 (by decide) _ _ (offW3 c 1) _ _ _) _ e0 _ _ _ _ rfl rfl rfl rfl
  have e2 : ∀ f, after (⟨Rect.unit (s := S1024x4096) ![0, 3072] S1024x1024.size inb_S1024x4096_S1024x1024_0_3072, k0_pay34 (bar_run.sl.r_6 m c) (bar_run.sl.v1087 m c) (bar_run.sl.v1091 m c)⟩ :: bar_run.sl.Hout_11 m c) f = cols (fun q => acc m c q 2) :=
    step_next m c 1 (bar_run.sl.r_6 m c) (bar_run.sl.v997 m c) (bar_run.sl.v1027 m c) (bar_run.sl.v1057 m c) (bar_run.sl.v1087 m c) (load8 m c 1 (by decide) _)
      (stagedW m c 2 0 0 (by decide) _ _ (offW0 c 2) _ _ _) (stagedW m c 2 1 1 (by decide) _ _ (offW1 c 2) _ _ _)
      (stagedW m c 2 2 0 (by decide) _ _ (offW2 c 2) _ _ _) (stagedW m c 2 3 1 (by decide) _ _ (offW3 c 2) _ _ _) _ e1 _ _ _ _ rfl rfl rfl rfl
  have e3 : ∀ f, after (⟨Rect.unit (s := S1024x4096) ![0, 3072] S1024x1024.size inb_S1024x4096_S1024x1024_0_3072, k0_pay39 (bar_run.sl.r_7 m c) (bar_run.sl.v1218 m c) (bar_run.sl.v1222 m c)⟩ :: bar_run.sl.Hout_15 m c) f = cols (fun q => acc m c q 3) :=
    step_next m c 2 (bar_run.sl.r_7 m c) (bar_run.sl.v1128 m c) (bar_run.sl.v1158 m c) (bar_run.sl.v1188 m c) (bar_run.sl.v1218 m c) (load8 m c 2 (by decide) _)
      (stagedW m c 3 0 0 (by decide) _ _ (offW0 c 3) _ _ _) (stagedW m c 3 1 1 (by decide) _ _ (offW1 c 3) _ _ _)
      (stagedW m c 3 2 0 (by decide) _ _ (offW2 c 3) _ _ _) (stagedW m c 3 3 1 (by decide) _ _ (offW3 c 3) _ _ _) _ e2 _ _ _ _ rfl rfl rfl rfl
  have e4 : ∀ f, after (⟨Rect.unit (s := S1024x4096) ![0, 3072] S1024x1024.size inb_S1024x4096_S1024x1024_0_3072, k0_pay44 (bar_run.sl.r_9 m c) (bar_run.sl.v1349 m c) (bar_run.sl.v1353 m c)⟩ :: bar_run.sl.Hout_19 m c) f = cols (fun q => acc m c q 4) :=
    step_next m c 3 (bar_run.sl.r_9 m c) (bar_run.sl.v1259 m c) (bar_run.sl.v1289 m c) (bar_run.sl.v1319 m c) (bar_run.sl.v1349 m c) (load8 m c 3 (by decide) _)
      (stagedW m c 4 0 0 (by decide) _ _ (offW0 c 4) _ _ _) (stagedW m c 4 1 1 (by decide) _ _ (offW1 c 4) _ _ _)
      (stagedW m c 4 2 0 (by decide) _ _ (offW2 c 4) _ _ _) (stagedW m c 4 3 1 (by decide) _ _ (offW3 c 4) _ _ _) _ e3 _ _ _ _ rfl rfl rfl rfl
  have e5 : ∀ f, after (⟨Rect.unit (s := S1024x4096) ![0, 3072] S1024x1024.size inb_S1024x4096_S1024x1024_0_3072, k0_pay49 (bar_run.sl.r_10 m c) (bar_run.sl.v1479 m c) (bar_run.sl.v1483 m c)⟩ :: bar_run.sl.Hout_23 m c) f = cols (fun q => acc m c q 5) :=
    step_next m c 4 (bar_run.sl.r_10 m c) (bar_run.sl.v1389 m c) (bar_run.sl.v1419 m c) (bar_run.sl.v1449 m c) (bar_run.sl.v1479 m c) (load16 m c 1 (by decide) (by decide) _)
      (stagedW m c 5 0 0 (by decide) _ _ (offW0 c 5) _ _ _) (stagedW m c 5 1 1 (by decide) _ _ (offW1 c 5) _ _ _)
      (stagedW m c 5 2 0 (by decide) _ _ (offW2 c 5) _ _ _) (stagedW m c 5 3 1 (by decide) _ _ (offW3 c 5) _ _ _) _ e4 _ _ _ _ rfl rfl rfl rfl
  have e6 : ∀ f, after (⟨Rect.unit (s := S1024x4096) ![0, 3072] S1024x1024.size inb_S1024x4096_S1024x1024_0_3072, k0_pay54 (bar_run.sl.r_11 m c) (bar_run.sl.v1609 m c) (bar_run.sl.v1613 m c)⟩ :: bar_run.sl.Hout_27 m c) f = cols (fun q => acc m c q 6) :=
    step_next m c 5 (bar_run.sl.r_11 m c) (bar_run.sl.v1519 m c) (bar_run.sl.v1549 m c) (bar_run.sl.v1579 m c) (bar_run.sl.v1609 m c) (load16 m c 2 (by decide) (by decide) _)
      (stagedW m c 6 0 0 (by decide) _ _ (offW0 c 6) _ _ _) (stagedW m c 6 1 1 (by decide) _ _ (offW1 c 6) _ _ _)
      (stagedW m c 6 2 0 (by decide) _ _ (offW2 c 6) _ _ _) (stagedW m c 6 3 1 (by decide) _ _ (offW3 c 6) _ _ _) _ e5 _ _ _ _ rfl rfl rfl rfl
  have e7 : ∀ f, after (⟨Rect.unit (s := S1024x4096) ![0, 3072] S1024x1024.size inb_S1024x4096_S1024x1024_0_3072, k0_pay59 (bar_run.sl.v1643 m c) (bar_run.sl.v1752 m c) (bar_run.sl.v1756 m c)⟩ :: bar_run.sl.Hout_31 m c) f = outAt m c :=
    step_last m c (bar_run.sl.v1643 m c) (bar_run.sl.v1649 m c) (bar_run.sl.v1689 m c) (bar_run.sl.v1729 m c) (bar_run.sl.v1752 m c) (load16 m c 3 (by decide) (by decide) _)
      (stagedW m c 7 0 0 (by decide) _ _ (offW0 c 7) _ _ _) (stagedW m c 7 1 1 (by decide) _ _ (offW1 c 7) _ _ _)
      (stagedW m c 7 2 0 (by decide) _ _ (offW2 c 7) _ _ _) (stagedW m c 7 3 1 (by decide) _ _ (offW3 c 7) _ _ _) _ e6 _ _ _ _ rfl rfl rfl rfl
  ihave Hout := (Entails.of_eq (congrArg (fun g => (oM.view.loc (c : Thread nD τ) ↦{fullShare} g : sProp 𝕄)) (e7 fo))) $$ Hout
  imod (close m κ (barCell c)) $$ [Ab] with ZB
  · isplitr; · iexact Ib
    iexact Ab
  imod (close m κ (sendCell c 1 (by decide))) $$ [As1] with Zs1
  · isplitr; · iexact Is1
    iexact As1
  imod (close m κ (recvCell c 1 (by decide))) $$ [Ar1] with Zr1
  · isplitr; · iexact Ir1
    iexact Ar1
  imod (close m κ (sendCell c 2 (by decide))) $$ [As2] with Zs2
  · isplitr; · iexact Is2
    iexact As2
  imod (close m κ (recvCell c 2 (by decide))) $$ [Ar2] with Zr2
  · isplitr; · iexact Ir2
    iexact Ar2
  imod (close m κ (sendCell c 3 (by decide))) $$ [As3] with Zs3
  · isplitr; · iexact Is3
    iexact As3
  imod (close m κ (recvCell c 3 (by decide))) $$ [Ar3] with Zr3
  · isplitr; · iexact Ir3
    iexact Ar3
  imod (close m κ (sendCell c 4 (by decide))) $$ [As4] with Zs4
  · isplitr; · iexact Is4
    iexact As4
  imod (close m κ (recvCell c 4 (by decide))) $$ [Ar4] with Zr4
  · isplitr; · iexact Ir4
    iexact Ar4
  imod (close m κ (sendCell c 5 (by decide))) $$ [As5] with Zs5
  · isplitr; · iexact Is5
    iexact As5
  imod (close m κ (recvCell c 5 (by decide))) $$ [Ar5] with Zr5
  · isplitr; · iexact Ir5
    iexact Ar5
  imod (close m κ (sendCell c 6 (by decide))) $$ [As6] with Zs6
  · isplitr; · iexact Is6
    iexact As6
  imod (close m κ (recvCell c 6 (by decide))) $$ [Ar6] with Zr6
  · isplitr; · iexact Ir6
    iexact Ar6
  imod (close m κ (sendCell c 7 (by decide))) $$ [As7] with Zs7
  · isplitr; · iexact Is7
    iexact As7
  imod (close m κ (recvCell c 7 (by decide))) $$ [Ar7] with Zr7
  · isplitr; · iexact Ir7
    iexact Ar7
  iapply (leave c (done m c))
  unfold done all4 all3 allX allW
  isplitl [HX0 HX1 HW0 HW1]
  · isplitl [HX0]; · iexact HX0
    isplitl [HX1]; · iexact HX1
    isplitl [HW0]; · iexact HW0
    iexact HW1
  isplitl [G1 G2 G3 G4 R0 G5 G6 G7 S1 S2 S3 S4 S5 S6 S7 SX0 SX1 SW0 SW1]
  · isplitl [G1 G2 G3 G4]
    · isplitl [G1]; · iexists _; iexact G1
      isplitl [G2]; · iexists _; iexact G2
      isplitl [G3]; · iexists _; iexact G3
      iexists _; iexact G4
    isplitl [R0 G5 G6 G7]
    · isplitl [R0]; · iexists _; iexact R0
      isplitl [G5]; · iexists _; iexact G5
      isplitl [G6]; · iexists _; iexact G6
      iexists _; iexact G7
    isplitl [S1 S2 S3 S4]
    · isplitl [S1]; · iexists _; iexact S1
      isplitl [S2]; · iexists _; iexact S2
      isplitl [S3]; · iexists _; iexact S3
      iexists _; iexact S4
    isplitl [S5 S6 S7]
    · isplitl [S5]; · iexists _; iexact S5
      isplitl [S6]; · iexists _; iexact S6
      iexists _; iexact S7
    isplitl [SX0 SX1]
    · isplitl [SX0]; · iexists _; iexact SX0
      iexists _; iexact SX1
    isplitl [SW0]; · iexists _; iexact SW0
    iexists _; iexact SW1
  isplitl [Zx0 Zx1 Zw0 Zw1]
  · isplitl [Zx0]; · iexact Zx0
    isplitl [Zx1]; · iexact Zx1
    isplitl [Zw0]; · iexact Zw0
    iexact Zw1
  isplitl [ZB Zs1 Zs2 Zs3 Zs4 Zs5 Zs6 Zs7 Zr1 Zr2 Zr3 Zr4 Zr5 Zr6 Zr7]
  · isplitl [ZB]; · iexact ZB
    isplitl [Zs1]; · iexact Zs1
    isplitl [Zs2]; · iexact Zs2
    isplitl [Zs3]; · iexact Zs3
    isplitl [Zs4]; · iexact Zs4
    isplitl [Zs5]; · iexact Zs5
    isplitl [Zs6]; · iexact Zs6
    isplitl [Zs7]; · iexact Zs7
    isplitl [Zr1]; · iexact Zr1
    isplitl [Zr2]; · iexact Zr2
    isplitl [Zr3]; · iexact Zr3
    isplitl [Zr4]; · iexact Zr4
    isplitl [Zr5]; · iexact Zr5
    isplitl [Zr6]; · iexact Zr6
    iexact Zr7
  isplitl [HO]; · iexists _; iexact HO
  iexact Hout

end Cert.KernelIdeal.A2A

end
-- ==== Proof.KernelIdeal.Run.lean ====
module

public import proofs.«01_k».proof.Proof.KernelIdeal.Enter
public import proofs.«01_k».proof.Proof.KernelIdeal.Body
public import Idealize.ShloMosaic.Lib.Pipeline.Launch
public import Idealize.ShloMosaic.Lib.Pipeline.CollectiveSegs
public import Idealize.ShloMosaic.Lib.Pipeline.ValueKit.Geometry

/- The run of the eight devices: every weakly fair execution ends, with each device's result `outAt`, the arguments unchanged and
   every counter at zero. -/

@[expose] public section

noncomputable section

namespace Cert.KernelIdeal.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- The machine's memory at launch. -/
def st₀ : MemSt nD τ sig (Elt F) := ⟨m, fun _ => 0, ρ⟩

/-- What device `c`'s body starts from, besides its scratch. -/
def start (c : Dev nD) : sProp 𝕄 := iprop((∃ κ, ghost m κ c) ∗ credits c ∗ levAts L lv ∗ args m c)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => outAt m c
  Φ t := match t with
    | ⟨0, _⟩ => iprop(start m c ∗ Pipeline.scopedRest cfg0.spec c)
    | ⟨_ + 1, _⟩ => final m c
  q _ := fullShare
  owed t := match t with
    | ⟨0, _⟩ => O₀ c
    | ⟨_ + 1, _⟩ => 0

abbrev 𝒱₀ : Variants := Variants.none

theorem share_eq (c : Dev nD) (w : Fin cfg0.W) : (dats m ρ 0 c).share w = fullShare := by unfold Dat.share; split <;> rfl

omit [FloatOps F] in
theorem owns_out (c : Dev nD) (V : (cc0_stg0_0 : Ref sig .tc).ty.Contents (Elt F)) :
    (owns (Ix := Unit) (Name := ℕ) (U := UU) (Lvl := ℕ) (c : Thread nD τ) (Memref.whole cc0_stg0_0) fullShare V : sProp 𝕄)
      = iprop(∃ f : Buf (Elt F) ((c : Thread nD τ).loc cc0_stg0_0), ⌜f = V⌝ ∗ ((c : Thread nD τ).loc cc0_stg0_0 ↦{fullShare} f)) := by
  unfold owns; simp only [Memref.view_whole, View.read_whole, View.set_whole]

/-- The output's staging buffer at contents `V`. -/
def held (c : Dev nD) (V : (cc0_stg0_0 : Ref sig .tc).ty.Contents (Elt F)) : sProp 𝕄 :=
  iprop(∃ f : Buf (Elt F) ((c : Thread nD τ).loc cc0_stg0_0), ⌜f = V⌝ ∗ ((c : Thread nD τ).loc cc0_stg0_0 ↦{fullShare} f))

/-- The body, from the launch's holdings to the launch's holdings. -/
theorem body_holds (c : Dev nD) (V : (cc0_stg0_0 : Ref sig .tc).ty.Contents (Elt F)) :
    iprop((start m c ∗ Pipeline.scopedRest cfg0.spec c) ∗ (dats m ρ 0 c).owesAt () (t0_0 : Fin cfg0.N).castSucc ∗ held c V)
      ⊢ wp frame (wpE (defs₀ (F := F)) 𝒱₀ (c : Thread nD τ) none) Set.univ
          (cc0_body (F := F) xM (Memref.isWhole_whole _) wM (Memref.isWhole_whole _) oM (Memref.isWhole_whole _) r8M (Memref.isWhole_whole _)
            r16M (Memref.isWhole_whole _) s8M (Memref.isWhole_whole _) s16M (Memref.isWhole_whole _) xsM (Memref.isWhole_whole _) wsM (Memref.isWhole_whole _)
            cc0_scratch6 cc0_scratch7 cc0_scratch8 cc0_scratch9)
          (fun _ => iprop(final m c ∗ (dats m ρ 0 c).owesAt () (t0_0 : Fin cfg0.N).succ ∗ held c (outAt m c))) := by
  unfold held start Dat.owesAt Pipeline.owesWithin
  rw [scr_eq]
  iintro ⟨⟨⟨⟨%κ, HG⟩, HC, HL, HA⟩, HS⟩, ⟨%W, %hW, HO⟩, ⟨%fo, %hfo, Hout⟩⟩
  ihave H := (enter m κ c) $$ [HG HC HL HA HS]
  · isplitl [HG]; · iexact HG
    isplitl [HC]; · iexact HC
    isplitl [HL]; · iexact HL
    isplitl [HA] <;> iassumption
  unfold start₁
  icases H with ⟨⟨H1, H2, H3, H4, H5, H6⟩, HR⟩
  ihave HB := (bar_run m κ c W fo) $$ [H1 H2 H3 H4 H5 H6 HO Hout]
  · isplitl [H1]; · iexact H1
    isplitl [H2]; · iexact H2
    isplitl [H3]; · iexact H3
    isplitl [H4]; · iexact H4
    isplitl [H5]; · iexact H5
    isplitl [HO]; · iexact HO
    isplitl [H6]; · iexact H6
    iexact Hout
  ihave HF := (wp_frame_r (R := rest m c) frame (wpE (defs₀ (F := F)) 𝒱₀ (c : Thread nD τ) none) Set.univ) $$ [HB HR]
  · isplitl [HB] <;> iassumption
  iapply (wp_mono frame (wpE (defs₀ (F := F)) 𝒱₀ (c : Thread nD τ) none) Set.univ (fun _ => ?_)) $$ HF
  iintro H
  ihave H' := (leave_ m c) $$ H
  icases H' with ⟨HF, ⟨%W', HO⟩, Hout⟩
  isplitl [HF]; · iexact HF
  isplitl [HO]
  · iexists W'
    isplitr
    · ipureintro; exact fun _ _ => Or.inl trivial
    iexact HO
  iexists (outAt m c)
  isplitr
  · ipureintro; rfl
  iexact Hout

set_option maxRecDepth 100000 in
/-- The library's body obligation. -/
theorem body_obligation (c : Dev nD) : BodyObligation (dats (F := F) m ρ 0 c) (defs₀ (F := F)) 𝒱₀ () Set.univ := fun t => by
  rw [fin_N0 t]
  rw [bigSep_W0, bigSep_W0]
  simp only [owns_out]
  show iprop((start m c ∗ Pipeline.scopedRest cfg0.spec c) ∗ (dats m ρ 0 c).owesAt () (t0_0 : Fin cfg0.N).castSucc
      ∗ (∃ d, held c ((dats m ρ 0 c).before (0 : Fin 1) t0_0 d))) ⊢ _
  iintro ⟨H1, H2, ⟨%d, H3⟩⟩
  iapply (body_holds m ρ c ((dats m ρ 0 c).before (0 : Fin 1) t0_0 d))
  isplitl [H1]; · iexact H1
  isplitl [H2] <;> iassumption

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' args
  iintro ⟨HA, HL, HC, -, HG⟩
  ihave HC' := (creds (F := F) c) $$ HC
  imodintro
  isplitl
  · isplitl [HG]; · iexact HG
    isplitl [HC']; · iexact HC'
    isplitl [HL]; · iexact HL
    iexact HA
  · iempintro

theorem phi_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ Pipeline.scopedRest cfg0.spec c) from rfl]
  iintro ⟨Hs, -, Hr⟩
  isplitl [Hs] <;> iassumption

theorem phi_out (c : Dev nD) : (dats m ρ 0 c).Φ (Fin.last cfg0.N)
    ⊢ iprop((args m c ∗ unscopedSems0 c) ∗ Pipeline.ownSems0 osem c ∗ Pipeline.scopedRest cfg0.spec c) := by
  rw [show (dats m ρ 0 c).Φ (Fin.last cfg0.N) = final m c from rfl]
  exact .rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What is read off the machine at the end: the arguments as launched and the runtime's counters at zero. -/
def Qend (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1))
    ∧ ∀ sm : SemLoc sig, sm.isScoped .tc = false → s.sem ((c.tc : Thread nD τ), sm) = 0

theorem read_end (c : Dev nD) (s' : Phys nD τ sig (Elt F)) :
    iprop((args m c ∗ unscopedSems0 c) ∗ emp ∗ SI s') ⊢ (|={Set.univ}=> iprop(⌜Qend m c s'.mem⌝ ∗ SI s') : sProp 𝕄) := by
  have h0 := SI_pointsTo_agree (Ix := Unit) (Name := ℕ) (U := UU) (Lvl := ℕ) (st := s') (ℓ := (c : Thread nD τ).loc main_arg0) (I := Finset.univ) (q := fullShare) (f := X m c)
  have h1 := SI_pointsTo_agree (Ix := Unit) (Name := ℕ) (U := UU) (Lvl := ℕ) (st := s') (ℓ := (c : Thread nD τ).loc main_arg1) (I := Finset.univ) (q := fullShare) (f := Wt m c)
  unfold args
  iintro ⟨⟨⟨H0, H1⟩, Hu⟩, -, HSI⟩
  ihave %e0 := h0 $$ [HSI H0]
  · isplitl [HSI] <;> iassumption
  ihave %e1 := h1 $$ [HSI H1]
  · isplitl [HSI] <;> iassumption
  imod (Pipeline.unscopedSems0_read (X := unscopedSems0 c) (c := c) fupd_intro s') $$ [Hu HSI] with ⟨%hu, HSI⟩
  · isplitl [Hu] <;> iassumption
  imodintro
  isplitr
  · ipureintro
    exact ⟨⟨funext fun i => e0 i (Finset.mem_univ i), funext fun i => e1 i (Finset.mem_univ i)⟩, hu⟩
  iexact HSI

/-! ## The run -/

/-- The result array, after: what the body left in the staging buffer. -/
theorem final_out (c : Dev nD) : (dats m ρ 0 c).arrAt (0 : Fin 1) cfg0.N = outAt m c := by
  funext i
  refine ((dats m ρ 0 c).arrAt_emb_eq_after_last (0 : Fin 1) t0_0 (by decide +kernel) i).trans ?_
  rfl

/-- What every execution ends in. -/
def Done (r : PUnit × MemSt nD τ sig (Elt F)) : Prop :=
  (∀ c : Dev nD, r.2.mem ((c : Thread nD τ).loc main_v1) = outAt m c ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0

set_option maxRecDepth 100000 in
theorem run_main : θ_run defs (onTc (τ := τ) (main (F := F))) (st₀ m ρ) (Done m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX' := (own_pair_emb (embR (nD := nD) (τ := τ) (sig := sig) (Ix := Unit) (Val := Elt F) (Name := ℕ) (Lvl := ℕ)) (initOf exCells exToks) (1 : Counters)) $$ HX
      icases HX' with ⟨HX', -⟩
      ihave HX'' := (Entails.of_eq (show (BI.own (((Emb.inl : Emb UB (UB × Counters)).trans embR) (initOf exCells exToks)) : sProp 𝕄) = BI.own (ER (initOf exCells exToks)) from rfl)) $$ HX'
      imod (fund_ex m) $$ HX'' with HG
      imodintro
      isplitl [HP] <;> iassumption)
    (hglob := glob m)
    (hA := fun _ _ => rfl) (hpf := fun _ k => k.elim0)
    (X := start m) (Y := fun c => iprop(args m c ∗ unscopedSems0 c)) (Z := fun _ => iprop(emp))
    (hX := start_intro m ρ) (hin := phi_in m ρ) (hout := phi_out m ρ)
    (QY := Qend m) (hY := read_end m)
    (hQ := fun _ h hs => ⟨fun c => ⟨((h c).1 (0 : Fin 1)).trans (final_out m ρ c), (h c).2.2.1.1, (h c).2.2.1.2⟩, sem_eq_zero hs fun c => (h c).2.2.2⟩)

end Cert.KernelIdeal.A2A

end
-- ==== Proof.Sums.lean ====
module

public import Mathlib.Algebra.BigOperators.Fin
public import Mathlib.Algebra.BigOperators.Group.Finset.Basic

/- Sums over the contracted coordinate: a sum of 8192 terms is a sum of eight blocks of 1024, and the blocks may be taken
   in the order a device meets them. -/

@[expose] public section

namespace Cert.Sums

open Finset

/-- Coordinate `k` of block `b`. -/
def at8 (b : Fin 8) (k : Fin 1024) : Fin 8192 := ⟨b.val * 1024 + k.val, by omega⟩

/-- A sum over 8192 coordinates, block by block. -/
theorem sum_blocks {M : Type*} [AddCommMonoid M] (f : Fin 8192 → M) : ∑ K, f K = ∑ b : Fin 8, ∑ k : Fin 1024, f (at8 b k) := by
  rw [← Fintype.sum_prod_type' (f := fun b k => f (at8 b k))]
  refine (Equiv.sum_comp (finProdFinEquiv (m := 8) (n := 1024)) f).symm.trans (Fintype.sum_congr _ _ fun x => congrArg f (Fin.ext ?_))
  show x.2.val + 1024 * x.1.val = x.1.val * 1024 + x.2.val
  omega

/-- A sum over the blocks, from device `c`'s own one backwards around the ring. -/
theorem sum_ring {M : Type*} [AddCommMonoid M] (g : Fin 8 → M) (c : Fin 8) (p : ℕ → Fin 8) (hp : ∀ n, (p n).val = (c.val + (8 - n)) % 8) :
    ∑ n ∈ range 8, g (p n) = ∑ b, g b := by
  rw [Finset.sum_range (fun n => g (p n))]
  refine Fintype.sum_bijective (fun n : Fin 8 => p n.val) (Finite.injective_iff_bijective.mp fun a b h => Fin.ext ?_) _ _ fun _ => rfl
  have e : (p a.val).val = (p b.val).val := congrArg Fin.val h
  rw [hp, hp] at e
  omega

/-- A chain that starts at the first term and adds the others one at a time is their sum. -/
theorem chain_sum {M : Type*} [AddCommMonoid M] (s t : ℕ → M) (h0 : s 0 = t 0) (hs : ∀ n, s (n + 1) = s n + t (n + 1)) (n : ℕ) :
    s n = ∑ k ∈ range (n + 1), t k := by
  induction n with
  | zero => rw [Finset.sum_range_one, h0]
  | succ n ih => rw [hs, ih, Finset.sum_range_succ _ (n + 1)]

end Cert.Sums
-- ==== Proof.Value.lean ====
module

public import proofs.«01_k».proof.Proof.Sums
public import proofs.«01_k».proof.Proof.KernelIdeal.Run
public import proofs.«01_k».proof.Proof.Gen.ReferenceIdeal.Run
public import Idealize.ShloMosaic.Lib.MatmulPlain
public import Idealize.ShloMosaic.Lib.StackMember
public import Idealize.ShloMosaic.Lib.Layout

/- Over the extended reals what device `c` ends with is block `c` of the rows of the reference's result: the casts are
   the identity, a quarter of the output is the sum of eight block products, and these eight sums of 1024 terms are the
   reference's one sum of 8192. -/

@[expose] public section

noncomputable section

namespace Cert.Proof.Value

open Idealize.ShloMosaic Idealize.ShloMosaic.TcCoe Idealize.ShloMosaic.ValueIdx
open Cert.KernelIdeal.A2A (X Wt xIdx wIdx peer peer_val src blk wblk prod acc epi cols outAt)
open Cert.KernelIdeal (S1024x1024)
open Cert.Sums (at8)

/-! ## The kernel's side -/

section Kernel

variable (m : (ℓ : Loc Cert.KernelIdeal.nD Cert.KernelIdeal.τ Cert.KernelIdeal.sig) → Buf (Elt Ideal) ℓ)

/-- The casts of a block are the identity. -/
theorem blk_apply (c : Dev Cert.KernelIdeal.nD) (n : ℕ) (i : S1024x1024.Idx) :
    (blk (F := Ideal) m c n i : EReal) = X m (peer c (8 - n)) (xIdx c (i 0) (i 1)) := by
  unfold blk
  split <;> rfl

theorem dot_plain : Cert.KernelIdeal.dot_S1024x1024_S1024x1024_S1024x1024_1_0_0_1_n_n = DotDims.plain 1024 1024 1024 := rfl

/-- A product of a block with a block of weights, entry by entry. -/
theorem prod_apply (b : FVec Ideal S1024x1024 .bf16) (w : FVec Ideal S1024x1024 .f32) (i j : Fin 1024) :
    (prod b w (ix2 i j) : EReal) = ∑ k : Fin 1024, (b (ix2 i k) : EReal) * (w (ix2 k j) : EReal) := by
  unfold prod
  rw [dot_plain]
  refine (Ideal.matmul_plain_apply _ _ _ _ _ _).trans ?_
  rw [constant_apply, Ideal.ofBits_zero_f32, zero_add]
  rfl

/-- A quarter of the output before the epilogue, as a sum over the devices the blocks come from. -/
theorem acc_apply (c : Dev Cert.KernelIdeal.nD) (q : Fin 4) (i j : Fin 1024) :
    (acc (F := Ideal) m c q 7 (ix2 i j) : EReal)
      = ∑ b : Fin 8, ∑ k : Fin 1024, (X m b (xIdx c i k) : EReal) * (Wt m c (wIdx b q k j) : EReal) := by
  rw [← Cert.Sums.sum_ring (fun b : Fin 8 => ∑ k : Fin 1024, (X m b (xIdx c i k) : EReal) * (Wt m c (wIdx b q k j) : EReal)) c
    (fun n => peer c (8 - n)) (fun n => peer_val c (8 - n))]
  refine (Cert.Sums.chain_sum (fun n => (acc (F := Ideal) m c q n (ix2 i j) : EReal))
    (fun n => (prod (blk m c n) (wblk m c n q) (ix2 i j) : EReal)) rfl (fun n => rfl) 7).trans ?_
  refine Finset.sum_congr rfl fun n _ => (prod_apply _ _ i j).trans (Finset.sum_congr rfl fun k _ => ?_)
  rw [blk_apply]
  rfl

/-- The epilogue, entry by entry. -/
theorem epi_apply (y : FVec Ideal S1024x1024 .f32) (i : S1024x1024.Idx) :
    (epi y i : EReal) = Ideal.div (y i) (Ideal.ofBits .f32 0x3F800000#32
      + Ideal.exp (-(min (Ideal.ofBits .f32 0x42700000#32) (max (Ideal.ofBits .f32 0xC2700000#32) (y i : EReal))))) := by
  have h : (epi y i : EReal) = Ideal.div (y i) (Ideal.ofBits .f32 0x3F800000#32
      + Ideal.exp (Ideal.ofBits .f32 0x00000000#32 - (min (Ideal.ofBits .f32 0x42700000#32) (max (Ideal.ofBits .f32 0xC2700000#32) (y i : EReal))))) := rfl
  rw [h, Ideal.ofBits_zero_f32, zero_sub]

end Kernel

/-! ## The reference's side -/

/-- The reference's operations after the product. -/
def refEpi (y : FVec Ideal Cert.ReferenceIdeal.S8192x4096 .f32) : FVec Ideal Cert.ReferenceIdeal.S8192x4096 .f32 :=
  open Cert.ReferenceIdeal in
  open Cert.ReferenceIdeal.Gen in
  Host.divf y (addf (broadcastInDim S8192x4096 ![] bcast_S_S8192x4096 (constant S_ .f32 0x3F800000#32)) (Host.exp (Host.negf
    (minimumf (broadcastInDim S8192x4096 ![] bcast_S_S8192x4096 (id (constant S_ .f32 0x42700000#32)))
      (maximumf (broadcastInDim S8192x4096 ![] bcast_S_S8192x4096 (id (constant S_ .f32 0xC2700000#32))) y)))))

/-- The reference's result of a whole pair of arrays. -/
def ref (x : FVec Ideal Cert.ReferenceIdeal.S8192x8192 .f32) (w : FVec Ideal Cert.ReferenceIdeal.S8192x4096 .f32) : FVec Ideal Cert.ReferenceIdeal.S8192x4096 .f32 :=
  refEpi (Host.dotGeneral Cert.ReferenceIdeal.dot_S8192x8192_S8192x4096_S8192x4096_1_0_0_1_n_n none x w)

/-- Those operations, entry by entry. -/
theorem refEpi_apply (y : FVec Ideal Cert.ReferenceIdeal.S8192x4096 .f32) (i : Cert.ReferenceIdeal.S8192x4096.Idx) :
    (refEpi y i : EReal) = Ideal.div (y i) (Ideal.ofBits .f32 0x3F800000#32
      + Ideal.exp (-(min (Ideal.ofBits .f32 0x42700000#32) (max (Ideal.ofBits .f32 0xC2700000#32) (y i : EReal))))) := rfl

theorem rdot_plain : Cert.ReferenceIdeal.dot_S8192x8192_S8192x4096_S8192x4096_1_0_0_1_n_n = DotDims.plain 8192 8192 4096 := rfl

/-- The reference's product, entry by entry. -/
theorem dot_apply (x : FVec Ideal Cert.ReferenceIdeal.S8192x8192 .f32) (w : FVec Ideal Cert.ReferenceIdeal.S8192x4096 .f32) (r : Fin 8192) (j : Fin 4096) :
    (Host.dotGeneral Cert.ReferenceIdeal.dot_S8192x8192_S8192x4096_S8192x4096_1_0_0_1_n_n none x w (ix2 r j) : EReal)
      = ∑ k : Fin 8192, (x (ix2 r k) : EReal) * (w (ix2 k j) : EReal) := by
  rw [rdot_plain]
  exact StackMember.dotGeneral_plain_apply none x w r j

/-! ## The two together -/

variable (m : (ℓ : Loc Cert.KernelIdeal.nD Cert.KernelIdeal.τ Cert.KernelIdeal.sig) → Buf (Elt Ideal) ℓ)

/-- If device `c` holds block `c` of the columns of `x` and all of `w`, it ends with block `c` of the rows of the
    reference's result. -/
theorem out_eq (x : FVec Ideal Cert.ReferenceIdeal.S8192x8192 .f32) (w : FVec Ideal Cert.ReferenceIdeal.S8192x4096 .f32)
    (hx : ∀ c : Dev Cert.KernelIdeal.nD, X m c = Layout.block ⟨2, ![8192, 1024]⟩ ⟨2, ![8192, 8192]⟩ 1 8 c x)
    (hw : ∀ c : Dev Cert.KernelIdeal.nD, Wt m c = w) (c : Dev Cert.KernelIdeal.nD) :
    outAt (F := Ideal) m c = Layout.block ⟨2, ![1024, 4096]⟩ ⟨2, ![8192, 4096]⟩ 0 8 c (ref x w) := by
  funext p
  obtain ⟨i, j, rfl⟩ : ∃ (i : Fin 1024) (j : Fin 4096), p = ix2 i j := ⟨p 0, p 1, eq_ix2 p⟩
  have eb : Layout.block ⟨2, ![1024, 4096]⟩ ⟨2, ![8192, 4096]⟩ 0 8 c (ref x w) (by decide) (ix2 i j) = ref x w (ix2 (at8 c i) j) := by
    rw [Layout.block_apply]
    congr 1
    funext d; apply Fin.ext
    fin_cases d <;> rfl
  refine Eq.trans ?_ eb.symm
  have hj : j.val / 1024 < 4 := by omega
  rw [ref, refEpi_apply, dot_apply, Cert.Sums.sum_blocks]
  show (epi (acc m c (⟨j.val / 1024, hj⟩ : Fin 4) 7) (ix2 i (⟨j.val % 1024, Nat.mod_lt _ (by decide)⟩ : Fin 1024)) : EReal) = _
  rw [epi_apply, acc_apply]
  have ex (b : Fin 8) (k : Fin 1024) : (by decide : Layout.Tiles ⟨2, ![8192, 1024]⟩ ⟨2, ![8192, 8192]⟩ 1 8).idx b (xIdx c i k) = ix2 (at8 c i) (at8 b k) := by
    funext d; apply Fin.ext
    fin_cases d <;> rfl
  have ew (b : Fin 8) (k : Fin 1024) : wIdx b ⟨j.val / 1024, hj⟩ k ⟨j.val % 1024, Nat.mod_lt _ (by decide)⟩ = ix2 (at8 b k) j := by
    funext d; apply Fin.ext
    fin_cases d
    · rfl
    · show j.val / 1024 * 1024 + j.val % 1024 = j.val
      omega
  have es : (∑ b : Fin 8, ∑ k : Fin 1024, (X m b (xIdx c i k) : EReal) * (Wt m c (wIdx b ⟨j.val / 1024, hj⟩ k ⟨j.val % 1024, Nat.mod_lt _ (by decide)⟩) : EReal))
      = ∑ b : Fin 8, ∑ k : Fin 1024, (x (ix2 (at8 c i) (at8 b k)) : EReal) * (w (ix2 (at8 b k) j) : EReal) := by
    refine Finset.sum_congr rfl fun b _ => Finset.sum_congr rfl fun k _ => ?_
    rw [hx, hw, Layout.block_apply]
    exact congrArg₂ (fun a e => (x a : EReal) * (w e : EReal)) (ex b k) (ew b k)
  rw [es]

end Cert.Proof.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value
public import Idealize.ShloMosaic.Lib.Quiescent

/- The five claims, put together: the kernel's run on eight devices (Proof/Kernel/Run, Proof/KernelIdeal/Run), the
   reference's run (Gen/ReferenceIdeal/Run) and the equality of what they end with (Proof/Value). -/

@[expose] public section

noncomputable section

namespace Cert.Proof

open Idealize.ShloMosaic Idealize.ShloMosaic.TcCoe Idealize.SL.Sem

/-- The kernel runs to its end on every device, leaves its arguments as they were and every semaphore at zero. -/
theorem frame_kernel : Cert.quiescent_Kernel := fun m g _ =>
  (θ_run Cert.Kernel.defs _ _).mono (fun _ h => ⟨fun c => (h.1 c).2, h.2⟩) (Cert.Kernel.A2A.run_main (F := Bits) m g)

/-- So does the kernel over the extended reals. -/
theorem frame_kernelIdeal : Cert.quiescent_KernelIdeal := fun m g _ =>
  (θ_run Cert.KernelIdeal.defs _ _).mono (fun _ h => ⟨fun c => (h.1 c).2, h.2⟩) (Cert.KernelIdeal.A2A.run_main (F := Ideal) m g)

/-- So does the reference, which has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals device `c` ends with block `c` of the rows of the reference's result. -/
theorem algebraic : Cert.algebraic_KernelIdeal_ReferenceIdeal := fun m g m' g' _ hagree =>
  ⟨Value.ref (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.trans (Value.out_eq m _ _ (fun c => (hagree c).1) (fun c => (hagree c).2) c), (h.1 c).2⟩)
      (Cert.KernelIdeal.A2A.run_main (F := Ideal) m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
